-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bags_delimited [hPre_bags_delimited : Cert.Pre_bags_delimited.Facts] (m : (ℓ : Loc Cert.KernelIdeal.nD Cert.KernelIdeal.τ Cert.KernelIdeal.sig) → Buf (Elt Ideal) ℓ) : Prop :=
  ∀ c : Dev Cert.KernelIdeal.nD,
    (Cert.Pre_bags_delimited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_bags_delimited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_bags_delimited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_bags_delimited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bags_delimited [hPre_bags_delimited : Cert.Pre_bags_delimited.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bags_delimited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_bags_delimited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_bags_delimited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_bags_delimited.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bags_delimited [hKernelIdeal : Cert.KernelIdeal.Facts] [hPre_bags_delimited : Cert.Pre_bags_delimited.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bags_delimited m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bags_delimited [hReferenceIdeal : Cert.ReferenceIdeal.Facts] [hPre_bags_delimited : Cert.Pre_bags_delimited.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bags_delimited m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bags_delimited [hKernelIdeal : Cert.KernelIdeal.Facts] [hReferenceIdeal : Cert.ReferenceIdeal.Facts] [hPre_bags_delimited : Cert.Pre_bags_delimited.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bags_delimited m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bags_delimited : Cert.Pre_bags_delimited.Facts),
    quiescent_Kernel (hKernel := hKernel)
    ∧ quiescent_KernelIdeal (hKernelIdeal := hKernelIdeal)
    ∧ quiescent_KernelIdeal_pre_bags_delimited (hKernelIdeal := hKernelIdeal) (hPre_bags_delimited := hPre_bags_delimited)
    ∧ quiescent_ReferenceIdeal (hReferenceIdeal := hReferenceIdeal)
    ∧ quiescent_ReferenceIdeal_pre_bags_delimited (hReferenceIdeal := hReferenceIdeal) (hPre_bags_delimited := hPre_bags_delimited)
    ∧ preserves_Kernel_KernelIdeal
    ∧ algebraic_KernelIdeal_ReferenceIdeal_pre_bags_delimited (hKernelIdeal := hKernelIdeal) (hReferenceIdeal := hReferenceIdeal) (hPre_bags_delimited := hPre_bags_delimited)
-- ==== Pre_bags_delimited.lean ====
abbrev S32768x64 : Shape := ⟨2, ![32768, 64]⟩
abbrev S32768 : Shape := ⟨1, ![32768]⟩
abbrev S17 : Shape := ⟨1, ![17]⟩
abbrev S64x10x8 : Shape := ⟨3, ![64, 10, 8]⟩
abbrev S16 : Shape := ⟨1, ![16]⟩
abbrev S16x1 : Shape := ⟨2, ![16, 1]⟩
abbrev S1x32768 : Shape := ⟨2, ![1, 32768]⟩
abbrev S16x32768 : Shape := ⟨2, ![16, 32768]⟩
abbrev S_ : Shape := ⟨0, ![]⟩
abbrev S10x8 : Shape := ⟨2, ![10, 8]⟩

class Facts : Prop where
  bcast_S16_S16x1_0 : S16.BroadcastsInDim S16x1 (![0] : Fin 1 → Fin S16x1.rank)
  bcast_S32768_S1x32768_1 : S32768.BroadcastsInDim S1x32768 (![1] : Fin 1 → Fin S1x32768.rank)
  bcast_S1x32768_S16x32768_0_1 : S1x32768.BroadcastsInDim S16x32768 (![0, 1] : Fin 2 → Fin S16x32768.rank)
  bcast_S16x1_S16x32768_0_1 : S16x1.BroadcastsInDim S16x32768 (![0, 1] : Fin 2 → Fin S16x32768.rank)
  slices_S17_S16_0 : S17.Slices ![0] S16
  slices_S17_S16_1 : S17.Slices ![1] S16
  bcast_S_S32768x64 : S_.BroadcastsInDim S32768x64 (![] : Fin 0 → Fin S32768x64.rank)
  bcast_S_S64x10x8 : S_.BroadcastsInDim S64x10x8 (![] : Fin 0 → Fin S64x10x8.rank)
  reducesTo_S64x10x8_S10x8_d0 : S64x10x8.ReducesTo [0] S10x8
  h_S_ : 0 < S_.numel
  bcast_S_S10x8 : S_.BroadcastsInDim S10x8 (![] : Fin 0 → Fin S10x8.rank)

variable [Facts]

def fn_part1 {F : FTy → Type} [FloatOps F] (main_arg3 : FVec F S64x10x8 .f32) (main_arg4 : FVec F S64x10x8 .f32) (main_v19 : IVec S16x32768 1) (main_v22 : IVec S32768x64 1) : IVec S16x32768 1 × IVec S32768x64 1 × IVec S64x10x8 1 × IVec S10x8 1 :=
  let main_v23 : FVec F S64x10x8 .f32 := Host.absf main_arg3
  let main_cst_0 : FVec F S_ .f32 := constant S_ .f32 0x7F800000#32
  let main_v24 : FVec F S64x10x8 .f32 := broadcastInDim S64x10x8 ![] bcast_S_S64x10x8 main_cst_0
  let main_v25 : IVec S64x10x8 1 := cmpf .olt main_v23 main_v24
  let main_v26 : FVec F S64x10x8 .f32 := Host.absf main_arg4
  let main_cst_1 : FVec F S_ .f32 := constant S_ .f32 0xFF800000#32
  let main_v27 : FVec F S10x8 .f32 := (fun x v => Host.reduce FloatOps.maximumf x v reducesTo_S64x10x8_S10x8_d0 h_S_) main_v26 main_cst_1
  let main_cst_2 : FVec F S_ .f32 := constant S_ .f32 0x00000000#32
  let main_v28 : FVec F S10x8 .f32 := broadcastInDim S10x8 ![] bcast_S_S10x8 main_cst_2
  let main_v29 : IVec S10x8 1 := cmpf .ogt main_v27 main_v28
  (main_v19, main_v22, main_v25, main_v29)

def fn {F : FTy → Type} [FloatOps F] (main_arg0 : FVec F S32768x64 .f32) (main_arg1 : IVec S32768 32) (main_arg2 : IVec S17 32) (main_arg3 : FVec F S64x10x8 .f32) (main_arg4 : FVec F S64x10x8 .f32) : IVec S16x32768 1 × IVec S32768x64 1 × IVec S64x10x8 1 × IVec S10x8 1 :=
  let main_v0 : IVec S16 32 := iotaInDim S16 32 0
  let main_v1 : IVec S16x1 32 := broadcastInDim S16x1 ![0] bcast_S16_S16x1_0 main_v0
  let main_v2 : IVec S32768 32 := iotaInDim S32768 32 0
  let main_v3 : IVec S1x32768 32 := broadcastInDim S1x32768 ![1] bcast_S32768_S1x32768_1 main_v2
  let main_v4 : IVec S1x32768 32 := broadcastInDim S1x32768 ![1] bcast_S32768_S1x32768_1 main_arg1
  let main_v5 : IVec S16x32768 32 := broadcastInDim S16x32768 ![0, 1] bcast_S1x32768_S16x32768_0_1 main_v4
  let main_v6 : IVec S16x32768 32 := broadcastInDim S16x32768 ![0, 1] bcast_S16x1_S16x32768_0_1 main_v1
  let main_v7 : IVec S16x32768 1 := cmpi .eq main_v5 main_v6
  let main_v8 : IVec S16 32 := (extractStridedSlice S16 ![0] · slices_S17_S16_0) main_arg2
  let main_v9 : IVec S16x1 32 := broadcastInDim S16x1 ![0] bcast_S16_S16x1_0 main_v8
  let main_v10 : IVec S16x32768 32 := broadcastInDim S16x32768 ![0, 1] bcast_S1x32768_S16x32768_0_1 main_v3
  let main_v11 : IVec S16x32768 32 := broadcastInDim S16x32768 ![0, 1] bcast_S16x1_S16x32768_0_1 main_v9
  let main_v12 : IVec S16x32768 1 := cmpi .sge main_v10 main_v11
  let main_v13 : IVec S16 32 := (extractStridedSlice S16 ![1] · slices_S17_S16_1) main_arg2
  let main_v14 : IVec S16x1 32 := broadcastInDim S16x1 ![0] bcast_S16_S16x1_0 main_v13
  let main_v15 : IVec S16x32768 32 := broadcastInDim S16x32768 ![0, 1] bcast_S1x32768_S16x32768_0_1 main_v3
  let main_v16 : IVec S16x32768 32 := broadcastInDim S16x32768 ![0, 1] bcast_S16x1_S16x32768_0_1 main_v14
  let main_v17 : IVec S16x32768 1 := cmpi .slt main_v15 main_v16
  let main_v18 : IVec S16x32768 1 := andi main_v12 main_v17
  let main_v19 : IVec S16x32768 1 := cmpi .eq main_v7 main_v18
  let main_v20 : FVec F S32768x64 .f32 := Host.absf main_arg0
  let main_cst : FVec F S_ .f32 := constant S_ .f32 0x7F800000#32
  let main_v21 : FVec F S32768x64 .f32 := broadcastInDim S32768x64 ![] bcast_S_S32768x64 main_cst
  let main_v22 : IVec S32768x64 1 := cmpf .olt main_v20 main_v21
  fn_part1 (F := F) main_arg3 main_arg4 main_v19 main_v22
-- ==== Kernel.lean ====
abbrev S32768x64 : Shape := ⟨2, ![32768, 64]⟩
abbrev S32768 : Shape := ⟨1, ![32768]⟩
abbrev S17 : Shape := ⟨1, ![17]⟩
abbrev S64x10x8 : Shape := ⟨3, ![64, 10, 8]⟩
abbrev S64x80 : Shape := ⟨2, ![64, 80]⟩
abbrev S80x64 : Shape := ⟨2, ![80, 64]⟩
abbrev S160x64 : Shape := ⟨2, ![160, 64]⟩
abbrev S64x32768 : Shape := ⟨2, ![64, 32768]⟩
abbrev S16x10x8 : Shape := ⟨3, ![16, 10, 8]⟩
abbrev S64x8192 : Shape := ⟨2, ![64, 8192]⟩
abbrev S80x16 : Shape := ⟨2, ![80, 16]⟩
abbrev S80 : Shape := ⟨1, ![80]⟩
abbrev S80x1 : Shape := ⟨2, ![80, 1]⟩
abbrev S80x8192 : Shape := ⟨2, ![80, 8192]⟩
abbrev S16x8192 : Shape := ⟨2, ![16, 8192]⟩
abbrev S1 : Shape := ⟨1, ![1]⟩
abbrev S1x1 : Shape := ⟨2, ![1, 1]⟩
abbrev S16x1 : Shape := ⟨2, ![16, 1]⟩
abbrev S16x80 : Shape := ⟨2, ![16, 80]⟩
abbrev S1x80 : Shape := ⟨2, ![1, 80]⟩

abbrev nBuf : Space → Nat
  | .hbm => 12
  | .vmem => 7
  | .smem => 1
  | _ => 0

abbrev bufTy : (tb : Table) → Fin (tcTables nBuf tb) → BufTy
  | .hbm, ⟨0, _⟩ => ⟨S32768x64, .f32⟩
  | .hbm, ⟨1, _⟩ => ⟨S32768, .i32⟩
  | .hbm, ⟨2, _⟩ => ⟨S17, .i32⟩
  | .hbm, ⟨3, _⟩ => ⟨S64x10x8, .f32⟩
  | .hbm, ⟨4, _⟩ => ⟨S64x10x8, .f32⟩
  | .hbm, ⟨5, _⟩ => ⟨S64x80, .f32⟩
  | .hbm, ⟨6, _⟩ => ⟨S80x64, .f32⟩
  | .hbm, ⟨7, _⟩ => ⟨S64x80, .f32⟩
  | .hbm, ⟨8, _⟩ => ⟨S80x64, .f32⟩
  | .hbm, ⟨9, _⟩ => ⟨S160x64, .f32⟩
  | .hbm, ⟨10, _⟩ => ⟨S64x32768, .f32⟩
  | .hbm, ⟨11, _⟩ => ⟨S16x10x8, .f32⟩
  | .local _ .vmem, ⟨0, _⟩ => ⟨S64x8192, .f32⟩
  | .local _ .vmem, ⟨1, _⟩ => ⟨S64x8192, .f32⟩
  | .local _ .vmem, ⟨2, _⟩ => ⟨S160x64, .f32⟩
  | .local _ .vmem, ⟨3, _⟩ => ⟨S16x10x8, .f32⟩
  | .local _ .vmem, ⟨4, _⟩ => ⟨S80x16, .f32⟩
  | .local _ .vmem, ⟨5, _⟩ => ⟨S80x16, .f32⟩
  | .local _ .vmem, ⟨6, _⟩ => ⟨S80x16, .f32⟩
  | .local _ .smem, ⟨0, _⟩ => ⟨S17, .i32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_v5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v252 : BitVec 1 := Scalar.cmpi .eq arg0 c3_i32
  let v253 : BitVec 32 := Scalar.extui v252
  let c0_i32_103 : BitVec 32 := 0#32
  let v254 : BitVec 1 := Scalar.cmpi .ne v253 c0_i32_103
  v254

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x10x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32768x64 : Shape := ⟨2, ![32768, 64]⟩
abbrev S32768 : Shape := ⟨1, ![32768]⟩
abbrev S17 : Shape := ⟨1, ![17]⟩
abbrev S64x10x8 : Shape := ⟨3, ![64, 10, 8]⟩
abbrev S_ : Shape := ⟨0, ![]⟩
abbrev S10x8 : Shape := ⟨2, ![10, 8]⟩
abbrev S1x10x8 : Shape := ⟨3, ![1, 10, 8]⟩
abbrev S32768x10x8 : Shape := ⟨3, ![32768, 10, 8]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S16x32768x1x1 : Shape := ⟨4, ![16, 32768, 1, 1]⟩
abbrev S1x32768x10x8 : Shape := ⟨4, ![1, 32768, 10, 8]⟩
abbrev S16x32768x10x8 : Shape := ⟨4, ![16, 32768, 10, 8]⟩
abbrev S16x10x8 : Shape := ⟨3, ![16, 10, 8]⟩
abbrev S32768x1 : Shape := ⟨2, ![32768, 1]⟩

abbrev nBuf : Space → Nat
  | .hbm => 105
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768, .i32⟩
  | .hbm, ⟨2, _⟩ => ⟨S17, .i32⟩
  | .hbm, ⟨3, _⟩ => ⟨S64x10x8, .f32⟩
  | .hbm, ⟨4, _⟩ => ⟨S64x10x8, .f32⟩
  | .hbm, ⟨5, _⟩ => ⟨S64x10x8, .f32⟩
  | .hbm, ⟨6, _⟩ => ⟨S_, .f32⟩
  | .hbm, ⟨7, _⟩ => ⟨S10x8, .f32⟩
  | .hbm, ⟨8, _⟩ => ⟨S1x10x8, .f32⟩
  | .hbm, ⟨9, _⟩ => ⟨S_, .f32⟩
  | .hbm, ⟨10, _⟩ => ⟨S1x10x8, .f32⟩
  | .hbm, ⟨11, _⟩ => ⟨S1x10x8, .f32⟩
  | .hbm, ⟨12, _⟩ => ⟨S1x10x8, .f32⟩
  | .hbm, ⟨13, _⟩ => ⟨S64x10x8, .f32⟩
  | .hbm, ⟨14, _⟩ => ⟨S64x10x8, .f32⟩
  | .hbm, ⟨15, _⟩ => ⟨S32768x10x8, .f32⟩
  | .hbm, ⟨16, _⟩ => ⟨S1x32768, .i32⟩
  | .hbm, ⟨17, _⟩ => ⟨S16, .i32⟩
  | .hbm, ⟨18, _⟩ => ⟨S16x1, .i32⟩
  | .hbm, ⟨19, _⟩ => ⟨S16x32768, .i32⟩
  | .hbm, ⟨20, _⟩ => ⟨S16x32768, .i32⟩
  | .hbm, ⟨21, _⟩ => ⟨S16x32768, .i1⟩
  | .hbm, ⟨22, _⟩ => ⟨S16x32768x1x1, .i1⟩
  | .hbm, ⟨23, _⟩ => ⟨S1x32768x10x8, .f32⟩
  | .hbm, ⟨24, _⟩ => ⟨S_, .f32⟩
  | .hbm, ⟨25, _⟩ => ⟨S_, .f32⟩
  | .hbm, ⟨26, _⟩ => ⟨S16x32768x10x8, .i1⟩
  | .hbm, ⟨27, _⟩ => ⟨S16x32768x10x8, .f32⟩
  | .hbm, ⟨28, _⟩ => ⟨S16x32768x10x8, .f32⟩
  | .hbm, ⟨29, _⟩ => ⟨S16x32768x10x8, .f32⟩
  | .hbm, ⟨30, _⟩ => ⟨S_, .f32⟩
  | .hbm, ⟨31, _⟩ => ⟨S16x10x8, .f32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S32768x10x8, .f32⟩
  | .hbm, ⟨41, _⟩ => ⟨S32768x10x8, .f32⟩
  | .hbm, ⟨42, _⟩ => ⟨S32768x10x8, .f32⟩
  | .hbm, ⟨43, _⟩ => ⟨S_, .f32⟩
  | .hbm, ⟨44, _⟩ => ⟨S16x10x8, .f32⟩
  | .hbm, ⟨45, _⟩ => ⟨S32768x1, .i32⟩
  | .hbm, ⟨46, _⟩ => ⟨S16x10x8, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S32768x10x8, .f32⟩
  | .hbm, ⟨56, _⟩ => ⟨S32768x10x8, .f32⟩
  | .hbm, ⟨57, _⟩ => ⟨S32768x10x8, .f32⟩
  | .hbm, ⟨58, _⟩ => ⟨S32768x10x8, .f32⟩
  | .hbm, ⟨59, _⟩ => ⟨S_, .f32⟩
  | .hbm, ⟨60, _⟩ => ⟨S16x10x8, .f32⟩
  | .hbm, ⟨61, _⟩ => ⟨S32768x1, .i32⟩
  | .hbm, ⟨62, _⟩ => ⟨S16x10x8, .f32⟩
  | .hbm, ⟨63, _⟩ => ⟨S_, .f32⟩
  | .hbm, ⟨64, _⟩ => ⟨S10x8, .f32⟩
  | .hbm, ⟨65, _⟩ => ⟨S_, .f32⟩
  | .hbm, ⟨66, _⟩ => ⟨S10x8, .f32⟩
  | .hbm, ⟨67, _⟩ => ⟨S10x8, .f32⟩
  | .hbm, ⟨68, _⟩ => ⟨S_, .i32⟩
  | .hbm, ⟨69, _⟩ => ⟨S_, .f32⟩
  | .hbm, ⟨70, _⟩ => ⟨S10x8, .f32⟩
  | .hbm, ⟨71, _⟩ => ⟨S1x10x8, .f32⟩
  | .hbm, ⟨72, _⟩ => ⟨S_, .f32⟩
  | .hbm, ⟨73, _⟩ => ⟨S1x10x8, .f32⟩
  | .hbm, ⟨74, _⟩ => ⟨S1x10x8, .f32⟩
  | .hbm, ⟨75, _⟩ => ⟨S16x10x8, .f32⟩
  | .hbm, ⟨76, _⟩ => ⟨S16x10x8, .f32⟩
  | .hbm, ⟨77, _⟩ => ⟨S16x10x8, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S10x8, .f32⟩
  | .hbm, ⟨83, _⟩ => ⟨S10x8, .f32⟩
  | .hbm, ⟨84, _⟩ => ⟨S10x8, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S10x8, .f32⟩
  | .hbm, ⟨90, _⟩ => ⟨S10x8, .f32⟩
  | .hbm, ⟨91, _⟩ => ⟨S10x8, .f32⟩
  | .hbm, ⟨92, _⟩ => ⟨S10x8, .i1⟩
  | .hbm, ⟨93, _⟩ => ⟨S_, .f32⟩
  | .hbm, ⟨94, _⟩ => ⟨S_, .f32⟩
  | .hbm, ⟨95, _⟩ => ⟨S10x8, .f32⟩
  | .hbm, ⟨96, _⟩ => ⟨S10x8, .f32⟩
  | .hbm, ⟨97, _⟩ => ⟨S1x10x8, .f32⟩
  | .hbm, ⟨98, _⟩ => ⟨S16x10x8, .f32⟩
  | .hbm, ⟨99, _⟩ => ⟨S16x10x8, .f32⟩
  | .hbm, ⟨100, _⟩ => ⟨S16x10x8, .f32⟩
  | .hbm, ⟨101, _⟩ => ⟨S16x10x8, .f32⟩
  | .hbm, ⟨102, _⟩ => ⟨S1x10x8, .f32⟩
  | .hbm, ⟨103, _⟩ => ⟨S16x10x8, .f32⟩
  | .hbm, ⟨104, _⟩ => ⟨S16x10x8, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_cst_0 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_cst_1 : Ref sig .tc := ⟨.hbm, 79, rfl⟩
abbrev main_call1_call0_v8 : Ref sig .tc := ⟨.hbm, 80, rfl⟩
abbrev main_call1_call0_cst_2 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_call0_cst_3 : Ref sig .tc := ⟨.hbm, 85, rfl⟩
abbrev main_call1_call0_v12 : Ref sig .tc := ⟨.hbm, 86, rfl⟩
abbrev main_call1_call0_cst_4 : Ref sig .tc := ⟨.hbm, 87, rfl⟩
abbrev main_call1_call0_call0_v0 : Ref sig .tc := ⟨.hbm, 88, rfl⟩
abbrev main_call1_call0_call0_v1 : Ref sig .tc := ⟨.hbm, 89, rfl⟩
abbrev main_call1_v0 : Ref sig .tc := ⟨.hbm, 90, rfl⟩
abbrev main_v47 : Ref sig .tc := ⟨.hbm, 91, rfl⟩
abbrev main_v48 : Ref sig .tc := ⟨.hbm, 92, rfl⟩
abbrev main_cst_11 : Ref sig .tc := ⟨.hbm, 93, rfl⟩
abbrev main_call2_v0 : Ref sig .tc := ⟨.hbm, 94, rfl⟩
abbrev main_call2_v1 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩

abbrev nD : Nat := 1
abbrev τ : Topo := Topo.v7x

variable {F : FTy → Type} [FloatOps F]
-- ==== Proof.Opened.lean ====
/- What each run of the kernel's body leaves in the three carried arrays and in the output, as functions of the block's
   inputs and of what the arrays held before: the new shift, the new sum of weights, the new weighted sum, and the
   standardised result. -/
module

public import proofs.«01_k».proof.Proof.Gen.KernelIdeal.Value
public import Idealize.ShloMosaic.Lib.Tactic
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem hz2 : (![0, 0] : Fin 2 → Nat) = fun _ => 0 := funext fun a => by
  match a with
  | ⟨0, _⟩ => rfl
  | ⟨1, _⟩ => rfl

theorem hz3 : (![0, 0, 0] : Fin 3 → Nat) = fun _ => 0 := funext fun a => by
  match a with
  | ⟨0, _⟩ => rfl
  | ⟨1, _⟩ => rfl
  | ⟨2, _⟩ => rfl

/-- Word `k` of the bag bounds. -/
def word (x0 : Vec F S17 .i32) (k : Fin 17) : BitVec 32 := x0 (ix1 k)

/-- A scalar load of the bag bounds reads the word at its offset. -/
theorem ld_word (x0 : Vec F S17 .i32) (k : Nat) (h : ∀ a, (![k] : Fin 1 → Nat) a + (![1] : Fin 1 → Nat) a ≤ S17.size a)
    (j : (Rect.unit (s := S17) (![k] : Fin 1 → Nat) (![1] : Fin 1 → Nat) h).shape.Idx) :
    View.ld x0 (Rect.unit (s := S17) (![k] : Fin 1 → Nat) (![1] : Fin 1 → Nat) h) j = word x0 ⟨k, by have e : k + 1 ≤ 17 := h 0; omega⟩ := by
  show x0 _ = x0 _
  congr 1
  funext a
  match a with
  | ⟨0, _⟩ =>
    have hj : (j 0).val < 1 := (j 0).isLt
    exact Fin.ext (show k + 1 * (j 0).val = k by omega)

/-- The first token of the point's block. -/
def start (i : grid0.Coords) : BitVec 32 := Scalar.muli (BitVec.ofNat 32 (i 0).val) 8192#32

/-- The membership array of a block: 1 where the token lies between the bounds of the bag. -/
def member (i : grid0.Coords) (x0 : Vec F S17 .i32) : FVec F S16x8192 .f32 :=
  k0_pay36 (k0_pay15 i)
    (k0_pay24 (F := F) (k0_pay16 (F := F) (word x0 0)) (k0_pay17 (F := F) (word x0 1)) (k0_pay18 (F := F) (word x0 2)) (k0_pay19 (F := F) (word x0 3)) (k0_pay20 (F := F) (word x0 4)) (k0_pay21 (F := F) (word x0 5)) (k0_pay22 (F := F) (word x0 6)) (k0_pay23 (F := F) (word x0 7)) (word x0 8) (word x0 9) (word x0 10) (word x0 11) (word x0 12) (word x0 13) (word x0 14) (word x0 15))
    (k0_pay25 (F := F) (word x0 1)) (k0_pay26 (F := F) (word x0 2)) (k0_pay27 (F := F) (word x0 3)) (k0_pay28 (F := F) (word x0 4)) (k0_pay29 (F := F) (word x0 5)) (k0_pay30 (F := F) (word x0 6)) (k0_pay31 (F := F) (word x0 7)) (k0_pay32 (F := F) (word x0 8)) (k0_pay33 (F := F) (word x0 9)) (k0_pay34 (F := F) (word x0 10)) (k0_pay35 (F := F) (word x0 11)) (word x0 12) (word x0 13) (word x0 14) (word x0 15) (word x0 16)

/-- The new shift: the old one, raised to the block's largest score for every bag the block may meet. -/
def shiftNew (i : grid0.Coords) (x0 : Vec F S17 .i32) (w : FVec F S80x8192 .f32) (m : Vec F S80x16 .f32) : FVec F S80x16 .f32 :=
  k0_pay51 (start i) (k0_pay37 w)
    (k0_pay38 w (start i) (word x0 0) (word x0 1)) (k0_pay39 w (start i) (word x0 1) (word x0 2)) (k0_pay40 w (start i) (word x0 2) (word x0 3))
    (k0_pay41 (start i) (k0_pay37 w) (word x0 3) (word x0 4)) (k0_pay42 (start i) (k0_pay37 w) (word x0 4) (word x0 5)) (k0_pay43 (start i) (k0_pay37 w) (word x0 5) (word x0 6)) (k0_pay44 (start i) (k0_pay37 w) (word x0 6) (word x0 7)) (k0_pay45 (start i) (k0_pay37 w) (word x0 7) (word x0 8)) (k0_pay46 (start i) (k0_pay37 w) (word x0 8) (word x0 9)) (k0_pay47 (start i) (k0_pay37 w) (word x0 9) (word x0 10)) (k0_pay48 (start i) (k0_pay37 w) (word x0 10) (word x0 11)) (k0_pay49 (start i) (k0_pay37 w) (word x0 11) (word x0 12)) (k0_pay50 (start i) (k0_pay37 w) (word x0 12) (word x0 13))
    (word x0 13) (word x0 14) (word x0 14) (word x0 15) (word x0 15) (word x0 16) m

/-- The factor that carries an old sum to the new shift. -/
def rescale (m mn : FVec F S80x16 .f32) : FVec F S80x16 .f32 := exp (subf m mn)

/-- The weights of a block's tokens under the new shift. -/
def weights (w : FVec F S80x8192 .f32) (oh : FVec F S16x8192 .f32) (mn : FVec F S80x16 .f32) : FVec F S80x8192 .f32 :=
  exp (subf w (matmul dot_S80x16_S16x8192_S80x8192_1_0_0_1_n_n none mn oh (constant S80x8192 .f32 0x00000000#32)))

/-- Sums over the tokens of each bag. -/
def bagSum (e : FVec F S80x8192 .f32) (oh : FVec F S16x8192 .f32) : FVec F S80x16 .f32 :=
  matmul dot_S80x8192_S16x8192_S80x16_1_1_0_0_n_n none e oh (constant S80x16 .f32 0x00000000#32)

/-- The new sum of weights. -/
def denNew (w : FVec F S80x8192 .f32) (oh : FVec F S16x8192 .f32) (m mn s : FVec F S80x16 .f32) : FVec F S80x16 .f32 :=
  addf (mulf s (rescale m mn)) (bagSum (weights w oh mn) oh)

/-- The new weighted sum. -/
def numNew (w v : FVec F S80x8192 .f32) (oh : FVec F S16x8192 .f32) (m mn n : FVec F S80x16 .f32) : FVec F S80x16 .f32 :=
  addf (mulf n (rescale m mn)) (bagSum (mulf (weights w oh mn) v) oh)

/-- The shift that the first point leaves. -/
theorem leftA_0 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : cond0_0 i) (hc1 : ¬cond0_1 i)
    (x0 : Vec F S17 .i32) (x1 : Vec F S64x8192 .f32) (x2 : Vec F S160x64 .f32) :
    sout0_A_0 c i a1 h1 a2 h2 a3 h3 a4 h4 a5 h5 a6 h6 a7 h7 hc0 hc1 x0 x1 x2
      = (shiftNew i x0 (k0_pay13 x1 x2) k0_pay6) := by
  unfold sout0_A_0
  rw [View.read_writes_eq_canon _ _ _ (scover0_A_0 c i a1 h1 a2 h2 a3 h3 a4 h4 a5 h5 a6 h6 a7 h7 hc0 hc1 x0 x1 x2)]
  unfold kernelRun0_A
  dsimp only
  sl_unfold_words
  rw [View.canon_cons_unit_zero (S := S80x16) hz2]
  simp only [View.readCov_unit_zero (S := S80x16) _ hz2, View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay56
  dsimp only
  rw [shapeCast_self]
  rfl

/-- The sum of weights that the first point leaves. -/
theorem leftA_1 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : cond0_0 i) (hc1 : ¬cond0_1 i)
    (x0 : Vec F S17 .i32) (x1 : Vec F S64x8192 .f32) (x2 : Vec F S160x64 .f32) :
    sout0_A_1 c i a1 h1 a2 h2 a3 h3 a4 h4 a5 h5 a6 h6 a7 h7 hc0 hc1 x0 x1 x2
      = denNew (k0_pay13 x1 x2) (member i x0) k0_pay6 (shiftNew i x0 (k0_pay13 x1 x2) k0_pay6) k0_pay7 := by
  unfold sout0_A_1
  rw [View.read_writes_eq_canon _ _ _ (scover0_A_1 c i a1 h1 a2 h2 a3 h3 a4 h4 a5 h5 a6 h6 a7 h7 hc0 hc1 x0 x1 x2)]
  unfold kernelRun0_A
  dsimp only
  sl_unfold_words
  rw [View.canon_cons_unit_zero (S := S80x16) hz2]
  simp only [View.readCov_unit_zero (S := S80x16) _ hz2, View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay3
  dsimp only
  rw [shapeCast_self]
  rfl

/-- The weighted sum that the first point leaves. -/
theorem leftA_2 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : cond0_0 i) (hc1 : ¬cond0_1 i)
    (x0 : Vec F S17 .i32) (x1 : Vec F S64x8192 .f32) (x2 : Vec F S160x64 .f32) :
    sout0_A_2 c i a1 h1 a2 h2 a3 h3 a4 h4 a5 h5 a6 h6 a7 h7 hc0 hc1 x0 x1 x2
      = numNew (k0_pay13 x1 x2) (k0_pay14 x1 x2) (member i x0) k0_pay6 (shiftNew i x0 (k0_pay13 x1 x2) k0_pay6) k0_pay8 := by
  unfold sout0_A_2
  rw [View.read_writes_eq_canon _ _ _ (scover0_A_2 c i a1 h1 a2 h2 a3 h3 a4 h4 a5 h5 a6 h6 a7 h7 hc0 hc1 x0 x1 x2)]
  unfold kernelRun0_A
  dsimp only
  sl_unfold_words
  rw [View.canon_cons_unit_zero (S := S80x16) hz2]
  simp only [View.readCov_unit_zero (S := S80x16) _ hz2, View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay4
  dsimp only
  rw [shapeCast_self]
  rfl

/-- The shift that a middle point leaves. -/
theorem leftB_0 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : ¬cond0_0 i) (hc1 : ¬cond0_1 i)
    (x0 : Vec F S17 .i32) (x1 : Vec F S64x8192 .f32) (x2 : Vec F S160x64 .f32) (xs0 : Vec F S80x16 .f32) (xs1 : Vec F S80x16 .f32) (xs2 : Vec F S80x16 .f32) :
    sout0_B_0 c i a1 h1 a2 h2 a3 h3 a4 h4 a5 h5 a6 h6 a7 h7 hc0 hc1 x0 x1 x2 xs0 xs1 xs2
      = (shiftNew i x0 (k0_pay13 x1 x2) xs0) := by
  unfold sout0_B_0
  rw [View.read_writes_eq_canon _ _ _ (scover0_B_0 c i a1 h1 a2 h2 a3 h3 a4 h4 a5 h5 a6 h6 a7 h7 hc0 hc1 x0 x1 x2 xs0 xs1 xs2)]
  unfold kernelRun0_B
  dsimp only
  sl_unfold_words
  rw [View.canon_unit_zero hz2]
  simp only [View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay56
  dsimp only
  rw [shapeCast_self]
  rfl

/-- The sum of weights that a middle point leaves. -/
theorem leftB_1 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : ¬cond0_0 i) (hc1 : ¬cond0_1 i)
    (x0 : Vec F S17 .i32) (x1 : Vec F S64x8192 .f32) (x2 : Vec F S160x64 .f32) (xs0 : Vec F S80x16 .f32) (xs1 : Vec F S80x16 .f32) (xs2 : Vec F S80x16 .f32) :
    sout0_B_1 c i a1 h1 a2 h2 a3 h3 a4 h4 a5 h5 a6 h6 a7 h7 hc0 hc1 x0 x1 x2 xs0 xs1 xs2
      = denNew (k0_pay13 x1 x2) (member i x0) xs0 (shiftNew i x0 (k0_pay13 x1 x2) xs0) xs1 := by
  unfold sout0_B_1
  rw [View.read_writes_eq_canon _ _ _ (scover0_B_1 c i a1 h1 a2 h2 a3 h3 a4 h4 a5 h5 a6 h6 a7 h7 hc0 hc1 x0 x1 x2 xs0 xs1 xs2)]
  unfold kernelRun0_B
  dsimp only
  sl_unfold_words
  rw [View.canon_unit_zero hz2]
  simp only [View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay3
  dsimp only
  rw [shapeCast_self]
  rfl

/-- The weighted sum that a middle point leaves. -/
theorem leftB_2 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : ¬cond0_0 i) (hc1 : ¬cond0_1 i)
    (x0 : Vec F S17 .i32) (x1 : Vec F S64x8192 .f32) (x2 : Vec F S160x64 .f32) (xs0 : Vec F S80x16 .f32) (xs1 : Vec F S80x16 .f32) (xs2 : Vec F S80x16 .f32) :
    sout0_B_2 c i a1 h1 a2 h2 a3 h3 a4 h4 a5 h5 a6 h6 a7 h7 hc0 hc1 x0 x1 x2 xs0 xs1 xs2
      = numNew (k0_pay13 x1 x2) (k0_pay14 x1 x2) (member i x0) xs0 (shiftNew i x0 (k0_pay13 x1 x2) xs0) xs2 := by
  unfold sout0_B_2
  rw [View.read_writes_eq_canon _ _ _ (scover0_B_2 c i a1 h1 a2 h2 a3 h3 a4 h4 a5 h5 a6 h6 a7 h7 hc0 hc1 x0 x1 x2 xs0 xs1 xs2)]
  unfold kernelRun0_B
  dsimp only
  sl_unfold_words
  rw [View.canon_unit_zero hz2]
  simp only [View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay4
  dsimp only
  rw [shapeCast_self]
  rfl

/-- The shift that the last point leaves. -/
theorem leftC_0 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : ¬cond0_0 i) (hc1 : cond0_1 i)
    (x0 : Vec F S17 .i32) (x1 : Vec F S64x8192 .f32) (x2 : Vec F S160x64 .f32) (xs0 : Vec F S80x16 .f32) (xs1 : Vec F S80x16 .f32) (xs2 : Vec F S80x16 .f32) :
    sout0_C_0 c i a1 h1 a2 h2 a3 h3 a4 h4 a5 h5 a6 h6 a7 h7 hc0 hc1 x0 x1 x2 xs0 xs1 xs2
      = (shiftNew i x0 (k0_pay13 x1 x2) xs0) := by
  unfold sout0_C_0
  rw [View.read_writes_eq_canon _ _ _ (scover0_C_0 c i a1 h1 a2 h2 a3 h3 a4 h4 a5 h5 a6 h6 a7 h7 hc0 hc1 x0 x1 x2 xs0 xs1 xs2)]
  unfold kernelRun0_C
  dsimp only
  sl_unfold_words
  rw [View.canon_unit_zero hz2]
  simp only [View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay56
  dsimp only
  rw [shapeCast_self]
  rfl

/-- The sum of weights that the last point leaves. -/
theorem leftC_1 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : ¬cond0_0 i) (hc1 : cond0_1 i)
    (x0 : Vec F S17 .i32) (x1 : Vec F S64x8192 .f32) (x2 : Vec F S160x64 .f32) (xs0 : Vec F S80x16 .f32) (xs1 : Vec F S80x16 .f32) (xs2 : Vec F S80x16 .f32) :
    sout0_C_1 c i a1 h1 a2 h2 a3 h3 a4 h4 a5 h5 a6 h6 a7 h7 hc0 hc1 x0 x1 x2 xs0 xs1 xs2
      = denNew (k0_pay13 x1 x2) (member i x0) xs0 (shiftNew i x0 (k0_pay13 x1 x2) xs0) xs1 := by
  unfold sout0_C_1
  rw [View.read_writes_eq_canon _ _ _ (scover0_C_1 c i a1 h1 a2 h2 a3 h3 a4 h4 a5 h5 a6 h6 a7 h7 hc0 hc1 x0 x1 x2 xs0 xs1 xs2)]
  unfold kernelRun0_C
  dsimp only
  sl_unfold_words
  rw [View.canon_unit_zero hz2]
  simp only [View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay3
  dsimp only
  rw [shapeCast_self]
  rfl

/-- The weighted sum that the last point leaves. -/
theorem leftC_2 (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : ¬cond0_0 i) (hc1 : cond0_1 i)
    (x0 : Vec F S17 .i32) (x1 : Vec F S64x8192 .f32) (x2 : Vec F S160x64 .f32) (xs0 : Vec F S80x16 .f32) (xs1 : Vec F S80x16 .f32) (xs2 : Vec F S80x16 .f32) :
    sout0_C_2 c i a1 h1 a2 h2 a3 h3 a4 h4 a5 h5 a6 h6 a7 h7 hc0 hc1 x0 x1 x2 xs0 xs1 xs2
      = numNew (k0_pay13 x1 x2) (k0_pay14 x1 x2) (member i x0) xs0 (shiftNew i x0 (k0_pay13 x1 x2) xs0) xs2 := by
  unfold sout0_C_2
  rw [View.read_writes_eq_canon _ _ _ (scover0_C_2 c i a1 h1 a2 h2 a3 h3 a4 h4 a5 h5 a6 h6 a7 h7 hc0 hc1 x0 x1 x2 xs0 xs1 xs2)]
  unfold kernelRun0_C
  dsimp only
  sl_unfold_words
  rw [View.canon_unit_zero hz2]
  simp only [View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  unfold k0_pay4
  dsimp only
  rw [shapeCast_self]
  rfl

/-- The result that the last point writes. -/
theorem written (c : Dev nD) (i : grid0.Coords) (a1 : Memref sig .tc .smem S17 .i32) (h1 : a1.IsWhole) (a2 : Memref sig .tc .vmem S64x8192 .f32) (h2 : a2.IsWhole) (a3 : Memref sig .tc .vmem S160x64 .f32) (h3 : a3.IsWhole) (a4 : Memref sig .tc .vmem S16x10x8 .f32) (h4 : a4.IsWhole) (a5 : Memref sig .tc .vmem S80x16 .f32) (h5 : a5.IsWhole) (a6 : Memref sig .tc .vmem S80x16 .f32) (h6 : a6.IsWhole) (a7 : Memref sig .tc .vmem S80x16 .f32) (h7 : a7.IsWhole) (hc0 : ¬cond0_0 i) (hc1 : cond0_1 i)
    (x0 : Vec F S17 .i32) (x1 : Vec F S64x8192 .f32) (x2 : Vec F S160x64 .f32) (xs0 : Vec F S80x16 .f32) (xs1 : Vec F S80x16 .f32) (xs2 : Vec F S80x16 .f32) :
    out0_C_3 c i a1 h1 a2 h2 a3 h3 a4 h4 a5 h5 a6 h6 a7 h7 hc0 hc1 x0 x1 x2 xs0 xs1 xs2
      = k0_pay5 (k0_pay12 x2) (rescale xs0 (shiftNew i x0 (k0_pay13 x1 x2) xs0)) (bagSum (weights (k0_pay13 x1 x2) (member i x0) (shiftNew i x0 (k0_pay13 x1 x2) xs0)) (member i x0))
          (bagSum (mulf (weights (k0_pay13 x1 x2) (member i x0) (shiftNew i x0 (k0_pay13 x1 x2) xs0)) (k0_pay14 x1 x2)) (member i x0)) xs1 xs2 := by
  unfold out0_C_3
  rw [View.read_writes_eq_canon _ _ _ (cover0_C_3 c i a1 h1 a2 h2 a3 h3 a4 h4 a5 h5 a6 h6 a7 h7 hc0 hc1 x0 x1 x2 xs0 xs1 xs2)]
  unfold kernelRun0_C
  dsimp only
  sl_unfold_words
  rw [View.canon_unit_zero hz3]
  simp only [View.readAt_eq_ld, h1.read_unread, h2.read_unread, h3.read_unread, h5.read_unread, h6.read_unread, h7.read_unread, View.ld_unit_zero (S := S80x16) hz2, View.ld_unit_zero (S := S64x8192) hz2, View.ld_unit_zero (S := S160x64) hz2, ld_word x0 0 inb_S17_S1_0, ld_word x0 1 inb_S17_S1_1, ld_word x0 2 inb_S17_S1_2, ld_word x0 3 inb_S17_S1_3, ld_word x0 4 inb_S17_S1_4, ld_word x0 5 inb_S17_S1_5, ld_word x0 6 inb_S17_S1_6, ld_word x0 7 inb_S17_S1_7, ld_word x0 8 inb_S17_S1_8, ld_word x0 9 inb_S17_S1_9, ld_word x0 10 inb_S17_S1_10, ld_word x0 11 inb_S17_S1_11, ld_word x0 12 inb_S17_S1_12, ld_word x0 13 inb_S17_S1_13, ld_word x0 14 inb_S17_S1_14, ld_word x0 15 inb_S17_S1_15, ld_word x0 16 inb_S17_S1_16]
  rfl

end Cert.KernelIdeal.Hand
-- ==== Proof.Blocks.lean ====
/- What the kernel's body finds in its input blocks: the bag bounds whole, a run of 8192 tokens of the transposed input,
   and the two weight matrices stacked, each with its (class, sample) columns as rows. -/
module

public import proofs.«01_k».proof.Proof.Opened

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-- One weight matrix with its (class, sample) columns as rows. -/
def rowsOf (b : FVec F S64x10x8 .f32) : FVec F S80x64 .f32 :=
  transpose S80x64 [1, 0] (shapeCast S64x80 b shapeCasts_S64x10x8_S64x80) transposes_S64x80_S80x64_1_0

theorem V_stacked (c : Dev nD) : V m c main_v4 = concatenate S160x64 0
    [⟨S80x64, rowsOf (m ((c : Thread nD τ).loc main_arg3))⟩, ⟨S80x64, rowsOf (m ((c : Thread nD τ).loc main_arg4))⟩]
    concatenates_S80x64_S80x64_S160x64_d0 := by
  show StableHlo.after (List.flatten [hostOps0, hostOps0_1]) _ (Proc.devRef .tc main_v4) = _
  simp only [hostOps0, hostOps0_1, List.flatten_cons, List.flatten_nil, List.append_nil, List.cons_append, List.nil_append]
  after_results
  rfl

theorem V_tokens (c : Dev nD) : V m c main_call0_v0
    = transpose S64x32768 [1, 0] (m ((c : Thread nD τ).loc main_arg0)) transposes_S32768x64_S64x32768_1_0 := by
  show StableHlo.after (List.flatten [hostOps0, hostOps0_1]) _ (Proc.devRef .tc main_call0_v0) = _
  simp only [hostOps0, hostOps0_1, List.flatten_cons, List.flatten_nil, List.append_nil, List.cons_append, List.nil_append]
  after_results
  rfl

theorem idx_of_point : ∀ t : Fin cfg0.N, win0_0.index t (0 : Fin 1) = 0 ∧ win0_1.index t (0 : Fin 2) = 0 ∧ win0_1.index t (1 : Fin 2) = t.val
    ∧ win0_2.index t (0 : Fin 2) = 0 ∧ win0_2.index t (1 : Fin 2) = 0 ∧ (grid0.coords t 0).val = t.val :=
  (by decide +kernel : ∀ t : Fin grid0.N, _)

theorem bounds_block (c : Dev nD) (t : Fin cfg0.N) (k : Fin 17) :
    word (iblk m c 0 t) k = m ((c : Thread nD τ).loc main_arg2) (ix1 k) := by
  show V m c main_arg2 (((cfg0.win 0).blk t).view.emb (ix1 k)) = _
  rw [show ((cfg0.win 0).blk t).view.emb (ix1 k) = ix1 k from ?_, V_main_arg2]
  obtain ⟨e, -⟩ := idx_of_point t
  funext a; apply Fin.ext
  match a with
  | ⟨0, _⟩ => show win0_0.index t (0 : Fin 1) * 17 + 1 * k.val = k.val; omega

theorem token_lt (t : Fin cfg0.N) (l : Fin 8192) : 8192 * t.val + l.val < 32768 := by
  have h := t.isLt
  have hN : cfg0.N = 4 := N_0
  omega

/-- Token `l` of point `t`'s block. -/
def token (t : Fin cfg0.N) (l : Fin 8192) : Fin 32768 := ⟨8192 * t.val + l.val, token_lt t l⟩

theorem tokens_block (c : Dev nD) (t : Fin cfg0.N) (d : Fin 64) (l : Fin 8192) :
    iblk m c 1 t (ix2 d l) = m ((c : Thread nD τ).loc main_arg0) (ix2 (token t l) d) := by
  show V m c main_call0_v0 (((cfg0.win 1).blk t).view.emb (ix2 d l)) = _
  rw [show ((cfg0.win 1).blk t).view.emb (ix2 d l) = ix2 d (token t l) from ?_, V_tokens]
  · pointwise
  obtain ⟨-, e, e', -⟩ := idx_of_point t
  funext a; apply Fin.ext
  match a with
  | ⟨0, _⟩ => show win0_1.index t (0 : Fin 2) * 64 + 1 * d.val = d.val; omega
  | ⟨1, _⟩ => show win0_1.index t (1 : Fin 2) * 8192 + 1 * l.val = 8192 * t.val + l.val; omega

/-- The class and the sample of row `j`. -/
def cls (j : Fin 80) : Fin 10 := ⟨j.val / 8, by omega⟩
def smp (j : Fin 80) : Fin 8 := ⟨j.val % 8, by omega⟩

theorem rowsOf_apply (b : FVec F S64x10x8 .f32) (j : Fin 80) (d : Fin 64) : rowsOf b (ix2 j d) = b (ix3 d (cls j) (smp j)) := by
  unfold rowsOf
  pointwise
  rfl

theorem block2 (c : Dev nD) (t : Fin cfg0.N) : (iblk m c 2 t : Vec F S160x64 .f32) = V m c main_v4 := by
  funext z
  show V m c main_v4 (((cfg0.win 2).blk t).view.emb z) = _
  rw [show ((cfg0.win 2).blk t).view.emb z = z from ?_]
  obtain ⟨-, -, -, e, e', -⟩ := idx_of_point t
  funext a; apply Fin.ext
  match a with
  | ⟨0, _⟩ => show win0_2.index t (0 : Fin 2) * 160 + 1 * (z 0).val = (z 0).val; omega
  | ⟨1, _⟩ => show win0_2.index t (1 : Fin 2) * 64 + 1 * (z 1).val = (z 1).val; omega

theorem upper_rows (c : Dev nD) (t : Fin cfg0.N) (j : Fin 80) (d : Fin 64) :
    extractStridedSlice S80x64 ![0, 0] (k0_pay10 (iblk m c 2 t)) slices_S160x64_o0_0_S80x64 (ix2 j d)
      = m ((c : Thread nD τ).loc main_arg3) (ix3 d (cls j) (smp j)) := by
  rw [block2, V_stacked]
  refine Eq.trans ?_ (rowsOf_apply _ j d)
  generalize rowsOf (m ((c : Thread nD τ).loc main_arg3)) = u
  generalize rowsOf (m ((c : Thread nD τ).loc main_arg4)) = z
  unfold k0_pay10
  pointwise

theorem lower_rows (c : Dev nD) (t : Fin cfg0.N) (j : Fin 80) (d : Fin 64) :
    k0_pay11 (iblk m c 2 t) (ix2 j d) = m ((c : Thread nD τ).loc main_arg4) (ix3 d (cls j) (smp j)) := by
  rw [block2, V_stacked]
  refine Eq.trans ?_ (rowsOf_apply _ j d)
  generalize rowsOf (m ((c : Thread nD τ).loc main_arg3)) = u
  generalize rowsOf (m ((c : Thread nD τ).loc main_arg4)) = z
  unfold k0_pay11 k0_pay10
  pointwise

end Cert.KernelIdeal.Hand
-- ==== Proof.Reads.lean ====
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe

/- The arrays of one block read at an index, on the extended reals: which tokens lie in which bag, the logits and the
   scores of the block's tokens, the new shift, and the sums over each bag. -/
/-- The index of bag `b`'s lower bound, and of its upper bound. -/
def lowAt (b : Fin 16) : Fin 17 := ⟨b.val, by omega⟩
def highAt (b : Fin 16) : Fin 17 := ⟨b.val + 1, by omega⟩

/-- Whether the word `g` lies between the bounds of bag `b`, as one bit. -/
def insideBit (x0 : Vec Ideal S17 .i32) (g : BitVec 32) (b : Fin 16) : BitVec 1 :=
  IntOp.andi (IntOp.cmpi .sge g (word x0 (lowAt b))) (IntOp.cmpi .slt g (word x0 (highAt b)))

/-- Sixteen single words stacked: word `b` is at row `b`. -/
theorem stacked_words (f : Fin 16 → BitVec 32) (h) (b : Fin 16) :
    concatenate S16x1 0 (List.ofFn fun n : Fin 16 => (⟨S1x1, broadcast S1x1 (f n)⟩ : (s : Shape) × (s.Idx → BitVec 32))) h (ix2 b 0) = f b :=
  concatenate_ofFn_unit_apply (t := S16x1) (s₁ := S1x1) 0 (fun n => broadcast S1x1 (f n)) h rfl rfl (ix2 b 0) b rfl (ix2 0 0)
    (fun a ha => by
      match a with
      | ⟨0, _⟩ => exact absurd rfl ha
      | ⟨1, _⟩ => rfl)

/-- Sixteen columns side by side: column `b` is at column `b`. -/
theorem beside {α : Type} (f : Fin 16 → (S80x1.Idx → α)) (h) (j : Fin 80) (b : Fin 16) :
    concatenate S80x16 1 (List.ofFn fun n : Fin 16 => (⟨S80x1, f n⟩ : (s : Shape) × (s.Idx → α))) h (ix2 j b) = f b (ix2 j 0) :=
  concatenate_ofFn_unit_apply (t := S80x16) (s₁ := S80x1) 1 f h rfl rfl (ix2 j b) b rfl (ix2 j 0)
    (fun a ha => by
      match a with
      | ⟨0, _⟩ => rfl
      | ⟨1, _⟩ => exact absurd rfl ha)

theorem lows (x0 : Vec Ideal S17 .i32) (b : Fin 16) :
    (k0_pay24 (F := Ideal) (k0_pay16 (F := Ideal) (word x0 0)) (k0_pay17 (F := Ideal) (word x0 1)) (k0_pay18 (F := Ideal) (word x0 2)) (k0_pay19 (F := Ideal) (word x0 3)) (k0_pay20 (F := Ideal) (word x0 4)) (k0_pay21 (F := Ideal) (word x0 5)) (k0_pay22 (F := Ideal) (word x0 6)) (k0_pay23 (F := Ideal) (word x0 7)) (word x0 8) (word x0 9) (word x0 10) (word x0 11) (word x0 12) (word x0 13) (word x0 14) (word x0 15)) (ix2 b 0) = word x0 (lowAt b) :=
  stacked_words (fun n => word x0 (lowAt n)) concatenates_S1x1_S1x1_S1x1_S1x1_S1x1_S1x1_S1x1_S1x1_S1x1_S1x1_S1x1_S1x1_S1x1_S1x1_S1x1_S1x1_S16x1_d0 b

theorem member_apply (i : grid0.Coords) (x0 : Vec Ideal S17 .i32) (b : Fin 16) (l : Fin 8192) :
    member i x0 (ix2 b l) = sitofp (F := Ideal) .f32 (extui 32 (fun _ : S16x8192.Idx => insideBit x0 (k0_pay15 i (ix2 b l)) b) natLt_1_32) (ix2 b l) := by
  unfold member
  generalize hlo : k0_pay24 (F := Ideal) _ _ _ _ _ _ _ _ _ _ _ _ _ _ _ _ = lo
  have e : lo (ix2 b 0) = word x0 (lowAt b) := by rw [← hlo]; exact lows x0 b
  unfold k0_pay36
  generalize hhi : concatenate S16x1 0 _ _ = hi
  have e2 : hi (ix2 b 0) = word x0 (highAt b) := by
    rw [← hhi]
    exact stacked_words (fun n => word x0 (highAt n)) concatenates_S1x1_S1x1_S1x1_S1x1_S1x1_S1x1_S1x1_S1x1_S1x1_S1x1_S1x1_S1x1_S1x1_S1x1_S1x1_S1x1_S16x1_d0 b
  simp only [insideBit, ← e, ← e2]
  generalize k0_pay15 i = g
  pointwise

theorem pos_apply (t : Fin cfg0.N) (b : Fin 16) (l : Fin 8192) :
    k0_pay15 (grid0.coords t) (ix2 b l) = BitVec.ofNat 32 (token t l).val := by
  obtain ⟨-, -, -, -, -, e⟩ := idx_of_point t
  unfold k0_pay15
  pointwise
  rw [e]
  show BitVec.ofNat 32 t.val * BitVec.ofNat 32 8192 + BitVec.ofNat 32 l.val = _
  rw [← BitVec.ofNat_mul, ← BitVec.ofNat_add]
  congr 1
  show t.val * 8192 + l.val = _
  simp only [token]
  omega

theorem bit_real (c : BitVec 1) (j : S16x8192.Idx) :
    sitofp (F := Ideal) .f32 (extui 32 (fun _ : S16x8192.Idx => c) natLt_1_32) j = ((if c = 1#1 then 1 else 0 : ℝ) : EReal) := by
  pointwise
  rcases (show c = 0#1 ∨ c = 1#1 by have := c.isLt; revert c; decide) with h | h <;> subst h
  · show (((0 : Int) : ℝ) : EReal) = _
    simp
  · show (((1 : Int) : ℝ) : EReal) = _
    simp

/-- The largest entry of one bag's column, or the floor where the bag does not meet the block. -/
def column (lo hi st : BitVec 32) (top : FVec Ideal S80x1 .f32) : FVec Ideal S80x1 .f32 :=
  Scalar.select (Scalar.andi (Scalar.cmpi .slt lo (Scalar.addi st 8192#32)) (Scalar.cmpi .sgt hi st)) top (broadcast S80x1 (Scalar.ofBits .f32 0xF149F2CA#32))

theorem shiftNew_apply (i : grid0.Coords) (x0 : Vec Ideal S17 .i32) (w : FVec Ideal S80x8192 .f32) (m : Vec Ideal S80x16 .f32) (j : Fin 80) (b : Fin 16) :
    shiftNew i x0 w m (ix2 j b) = max (m (ix2 j b)) (column (word x0 (lowAt b)) (word x0 (highAt b)) (start i) (k0_pay37 w) (ix2 j 0)) := by
  unfold shiftNew k0_pay51
  generalize hc : concatenate S80x16 1 _ _ = cc
  have e : cc (ix2 j b) = column (word x0 (lowAt b)) (word x0 (highAt b)) (start i) (k0_pay37 w) (ix2 j 0) := by
    rw [← hc]
    exact beside (fun n => column (word x0 (lowAt n)) (word x0 (highAt n)) (start i) (k0_pay37 w)) concatenates_S80x1_S80x1_S80x1_S80x1_S80x1_S80x1_S80x1_S80x1_S80x1_S80x1_S80x1_S80x1_S80x1_S80x1_S80x1_S80x1_S80x16_d1 j b
  rw [← e]
  pointwise

theorem weights_apply (w : FVec Ideal S80x8192 .f32) (oh : FVec Ideal S16x8192 .f32) (mn : FVec Ideal S80x16 .f32) (j : Fin 80) (l : Fin 8192) :
    weights w oh mn (ix2 j l) = Ideal.exp (w (ix2 j l) - ∑ b : Fin 16, mn (ix2 j b) * oh (ix2 b l)) := by
  unfold weights
  pointwise

theorem bagSum_apply (e : FVec Ideal S80x8192 .f32) (oh : FVec Ideal S16x8192 .f32) (j : Fin 80) (b : Fin 16) :
    bagSum e oh (ix2 j b) = ∑ l : Fin 8192, e (ix2 j l) * oh (ix2 b l) := by
  unfold bagSum
  pointwise

theorem top_apply (w : FVec Ideal S80x8192 .f32) (j : Fin 80) :
    k0_pay37 w (ix2 j 0) = Finset.fold max (Ideal.ofBits FTy.f32 4286578688#32) (fun l => w (ix2 j l)) Finset.univ := by
  unfold k0_pay37
  pointwise

theorem logits_apply (x1 : Vec Ideal S64x8192 .f32) (x2 : Vec Ideal S160x64 .f32) (j : Fin 80) (l : Fin 8192) :
    k0_pay13 x1 x2 (ix2 j l) = ∑ d : Fin 64, extractStridedSlice S80x64 ![0, 0] (k0_pay10 x2) slices_S160x64_o0_0_S80x64 (ix2 j d) * x1 (ix2 d l) := by
  unfold k0_pay13 k0_pay9
  rw [shapeCast_self]
  generalize extractStridedSlice S80x64 ![0, 0] (k0_pay10 x2) slices_S160x64_o0_0_S80x64 = u
  pointwise

theorem scores_apply (x1 : Vec Ideal S64x8192 .f32) (x2 : Vec Ideal S160x64 .f32) (j : Fin 80) (l : Fin 8192) :
    k0_pay14 x1 x2 (ix2 j l) = ∑ d : Fin 64, k0_pay11 x2 (ix2 j d) * Ideal.rsqrt (k0_pay12 x2 (ix2 j 0)) * x1 (ix2 d l) := by
  unfold k0_pay14 k0_pay9
  rw [shapeCast_self]
  pointwise

theorem meanSquare_apply (x2 : Vec Ideal S160x64 .f32) (j : Fin 80) :
    k0_pay12 x2 (ix2 j 0) = Ideal.div (∑ d : Fin 64, k0_pay11 x2 (ix2 j d) * k0_pay11 x2 (ix2 j d)) (Ideal.ofBits FTy.f32 1115684864#32) := by
  unfold k0_pay12
  pointwise

theorem floor_apply (j : Fin 80) (b : Fin 16):
   k0_pay6 (F := Ideal) (ix2 j b) = ((-1000000015047466219876688855040 : ℝ) : EReal) := by
  unfold k0_pay6
  pointwise
  simp [Ideal.ofBits, Ideal.ieee, -EReal.coe_mul]
  norm_num

theorem zeroDen_apply (j : Fin 80) (b : Fin 16) : k0_pay7 (F := Ideal) (ix2 j b) = 0 := by
  unfold k0_pay7
  pointwise

theorem zeroNum_apply (j : Fin 80) (b : Fin 16) : k0_pay8 (F := Ideal) (ix2 j b) = 0 := by
  unfold k0_pay8
  pointwise

/-- The quotient of the two sums, zero for a bag that has no weight; one row per bag. -/
def quotient (s n : FVec Ideal S80x16 .f32) : FVec Ideal S16x80 .f32 :=
  select (cmpf .ogt (transpose S16x80 [1, 0] s transposes_S80x16_p1_0_S16x80) (broadcast S16x80 (Scalar.ofBits .f32 0x00000000#32)))
    (divf (transpose S16x80 [1, 0] n transposes_S80x16_p1_0_S16x80) (transpose S16x80 [1, 0] s transposes_S80x16_p1_0_S16x80))
    (broadcast S16x80 (Scalar.ofBits .f32 0x00000000#32))

/-- The mean over the bags. -/
def meanRow (z : FVec Ideal S16x80 .f32) : FVec Ideal S1x80 .f32 :=
  divf (shapeCast S1x80 (multiReduction .add [0] S80 z 0x00000000#32 reduces_S16x80_S80 (.inl rfl) rfl) shapeCasts_S80_S1x80) (broadcast S1x80 (Scalar.ofBits .f32 0x41800000#32))

/-- The distance from the mean. -/
def centred (z : FVec Ideal S16x80 .f32) : FVec Ideal S16x80 .f32 := subf z (broadcastTo S16x80 (meanRow z) broadcasts_S1x80_S16x80)

/-- The spread over the bags. -/
def spread (z : FVec Ideal S16x80 .f32) : FVec Ideal S1x80 .f32 :=
  sqrt (divf (shapeCast S1x80 (multiReduction .add [0] S80 (mulf (centred z) (centred z)) 0x00000000#32 reduces_S16x80_S80 (.inl rfl) rfl) shapeCasts_S80_S1x80) (broadcast S1x80 (Scalar.ofBits .f32 0x41700000#32)))

/-- The spread, one where it is not a number. -/
def spreadSafe (z : FVec Ideal S16x80 .f32) : FVec Ideal S1x80 .f32 :=
  select (cmpf .one (spread z) (spread z)) (broadcast S1x80 (Scalar.ofBits .f32 0x3F800000#32)) (spread z)

/-- The standardised rows, each column scaled. -/
def standardised (q : FVec Ideal S80x1 .f32) (z : FVec Ideal S16x80 .f32) : FVec Ideal S16x80 .f32 :=
  divf (mulf (broadcastTo S16x80 (sqrt (transpose S1x80 [1, 0] q transposes_S80x1_p1_0_S1x80)) broadcasts_S1x80_S16x80) (centred z)) (broadcastTo S16x80 (spreadSafe z) broadcasts_S1x80_S16x80)

theorem result_form (q : FVec Ideal S80x1 .f32) (a d e : FVec Ideal S80x16 .f32) (s n : Vec Ideal S80x16 .f32) :
    k0_pay5 q a d e s n = shapeCast S16x10x8 (standardised q (quotient (addf (mulf s a) d) (addf (mulf n a) e))) shapeCasts_S16x80_S16x10x8 := rfl

theorem quotient_apply (s n : FVec Ideal S80x16 .f32) (b : Fin 16) (j : Fin 80) :
    quotient s n (ix2 b j) = if 0 < s (ix2 j b) then Ideal.div (n (ix2 j b)) (s (ix2 j b)) else 0 := by
  unfold quotient
  pointwise

theorem meanRow_apply (z : FVec Ideal S16x80 .f32) (j : Fin 80) :
    meanRow z (ix2 0 j) = Ideal.div (∑ b : Fin 16, z (ix2 b j)) (Ideal.ofBits .f32 0x41800000#32) := by
  unfold meanRow
  pointwise

theorem centred_apply (z : FVec Ideal S16x80 .f32) (b : Fin 16) (j : Fin 80) :
    centred z (ix2 b j) = z (ix2 b j) - Ideal.div (∑ b : Fin 16, z (ix2 b j)) (Ideal.ofBits .f32 0x41800000#32) := by
  unfold centred
  rw [← meanRow_apply]
  pointwise

theorem spread_apply (z : FVec Ideal S16x80 .f32) (j : Fin 80) :
    spread z (ix2 0 j) = Ideal.sqrt (Ideal.div (∑ b : Fin 16, centred z (ix2 b j) * centred z (ix2 b j)) (Ideal.ofBits .f32 0x41700000#32)) := by
  unfold spread
  pointwise

theorem spreadSafe_apply (z : FVec Ideal S16x80 .f32) (j : Fin 80) : spreadSafe z (ix2 0 j) = spread z (ix2 0 j) := by
  unfold spreadSafe
  pointwise
  exact if_neg (fun h => h rfl)

theorem standardised_apply (q : FVec Ideal S80x1 .f32) (z : FVec Ideal S16x80 .f32) (b : Fin 16) (j : Fin 80) :
    standardised q z (ix2 b j) = Ideal.div (Ideal.sqrt (q (ix2 j 0)) * centred z (ix2 b j)) (spread z (ix2 0 j)) := by
  rw [← spreadSafe_apply]
  unfold standardised
  pointwise

theorem result_apply (q : FVec Ideal S80x1 .f32) (a d e : FVec Ideal S80x16 .f32) (s n : Vec Ideal S80x16 .f32) (b : Fin 16) (p : Fin 10) (r : Fin 8) (j : Fin 80) (hj : j.val = p.val * 8 + r.val) :
    k0_pay5 q a d e s n (ix3 b p r) = standardised q (quotient (addf (mulf s a) d) (addf (mulf n a) e)) (ix2 b j) := by
  rw [result_form]
  generalize standardised q _ = y
  pointwise
  congr 2
  exact Fin.ext hj.symm

end Cert.KernelIdeal.Hand
-- ==== Proof.Step.lean ====
/- One block's update of the running sums, over the reals: where the logits, the scores and the running sums are real
   and each token lies in at most one bag, the new sums are the old ones carried to the new shift plus the block's own. -/
module

public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Block

variable (w v : FVec Ideal S80x8192 .f32) (oh : FVec Ideal S16x8192 .f32) (m mn s n : FVec Ideal S80x16 .f32)
variable (W V : Fin 80 → Fin 8192 → ℝ) (D : Fin 16 → Fin 8192 → Prop) [∀ b l, Decidable (D b l)] (M Mn S N : Fin 80 → Fin 16 → ℝ)

/-- The weight of token `l` under the new shift, times the indicator of bag `b`. -/
theorem weight_member (hw : ∀ j l, w (ix2 j l) = (W j l : EReal)) (ho : ∀ b l, oh (ix2 b l) = ((if D b l then 1 else 0 : ℝ) : EReal))
    (hmn : ∀ j b, mn (ix2 j b) = (Mn j b : EReal)) (one : ∀ l b b', D b l → D b' l → b = b') (j : Fin 80) (b : Fin 16) (l : Fin 8192) :
    ∃ r : ℝ, weights w oh mn (ix2 j l) = (r : EReal) ∧ (D b l → r = Real.exp (W j l - Mn j b)) := by
  refine ⟨Real.exp (W j l - ∑ b : Fin 16, Mn j b * (if D b l then 1 else 0)), ?_, fun h => ?_⟩
  · rw [weights_apply]
    simp only [hw, ho, hmn, ← EReal.coe_mul, ← coe_sum, ← EReal.coe_sub, Ideal.exp_coe]
  · congr 2
    rw [Finset.sum_eq_single b]
    · rw [if_pos h, mul_one]
    · intro b' _ hb'
      rw [if_neg (fun h' => hb' (one l b' b h' h)), mul_zero]
    · intro h'
      exact absurd (Finset.mem_univ b) h'

theorem den_step (hw : ∀ j l, w (ix2 j l) = (W j l : EReal)) (ho : ∀ b l, oh (ix2 b l) = ((if D b l then 1 else 0 : ℝ) : EReal))
    (hm : ∀ j b, m (ix2 j b) = (M j b : EReal)) (hmn : ∀ j b, mn (ix2 j b) = (Mn j b : EReal)) (hs : ∀ j b, s (ix2 j b) = (S j b : EReal))
    (one : ∀ l b b', D b l → D b' l → b = b') (j : Fin 80) (b : Fin 16) :
    denNew w oh m mn s (ix2 j b) = ((S j b * Real.exp (M j b - Mn j b) + ∑ l : Fin 8192, if D b l then Real.exp (W j l - Mn j b) else 0 : ℝ) : EReal) := by
  show s (ix2 j b) * Ideal.exp (m (ix2 j b) - mn (ix2 j b)) + bagSum (weights w oh mn) oh (ix2 j b) = _
  rw [bagSum_apply, hs, hm, hmn, EReal.coe_add, EReal.coe_mul, ← EReal.coe_sub, Ideal.exp_coe, coe_sum]
  refine congrArg (fun x => _ + x) (Finset.sum_congr rfl fun l _ => ?_)
  obtain ⟨r, e, h⟩ := weight_member w oh mn W D Mn hw ho hmn one j b l
  rw [e, ho, ← EReal.coe_mul]
  by_cases hd : D b l
  · rw [if_pos hd, if_pos hd, mul_one, h hd]
  · rw [if_neg hd, if_neg hd, mul_zero]

theorem num_step (hw : ∀ j l, w (ix2 j l) = (W j l : EReal)) (hv : ∀ j l, v (ix2 j l) = (V j l : EReal)) (ho : ∀ b l, oh (ix2 b l) = ((if D b l then 1 else 0 : ℝ) : EReal))
    (hm : ∀ j b, m (ix2 j b) = (M j b : EReal)) (hmn : ∀ j b, mn (ix2 j b) = (Mn j b : EReal)) (hn : ∀ j b, n (ix2 j b) = (N j b : EReal))
    (one : ∀ l b b', D b l → D b' l → b = b') (j : Fin 80) (b : Fin 16) :
    numNew w v oh m mn n (ix2 j b) = ((N j b * Real.exp (M j b - Mn j b) + ∑ l : Fin 8192, if D b l then Real.exp (W j l - Mn j b) * V j l else 0 : ℝ) : EReal) := by
  show n (ix2 j b) * Ideal.exp (m (ix2 j b) - mn (ix2 j b)) + bagSum (mulf (weights w oh mn) v) oh (ix2 j b) = _
  rw [bagSum_apply, hn, hm, hmn, EReal.coe_add, EReal.coe_mul, ← EReal.coe_sub, Ideal.exp_coe, coe_sum]
  refine congrArg (fun x => _ + x) (Finset.sum_congr rfl fun l _ => ?_)
  show weights w oh mn (ix2 j l) * v (ix2 j l) * oh (ix2 b l) = _
  obtain ⟨r, e, h⟩ := weight_member w oh mn W D Mn hw ho hmn one j b l
  rw [e, ho, hv, ← EReal.coe_mul, ← EReal.coe_mul]
  by_cases hd : D b l
  · rw [if_pos hd, if_pos hd, mul_one, h hd]
  · rw [if_neg hd, if_neg hd, mul_zero]

end Block

/-- The larger of two reals is real. -/
theorem max_real {x y : EReal} (hx : ∃ r : ℝ, x = r) (hy : ∃ r : ℝ, y = r) : ∃ r : ℝ, max x y = r := by
  rcases max_choice x y with h | h <;> rw [h]
  · exact hx
  · exact hy

/-- The greatest of a non-empty family of reals, taken from the bottom, is real. -/
theorem fold_real {ι : Type} (s : Finset ι) (hs : s.Nonempty) (f : ι → EReal) (hf : ∀ i, ∃ r : ℝ, f i = r) :
    ∃ r : ℝ, s.fold max ⊥ f = r := by
  classical
  induction hs using Finset.Nonempty.cons_induction with
  | singleton a => simpa using hf a
  | cons a s ha hs ih => rw [Finset.fold_cons]; exact max_real (hf a) ih

theorem floor_bits : Ideal.ofBits .f32 0xF149F2CA#32 = ((-1000000015047466219876688855040 : ℝ) : EReal) := by
  simp [Ideal.ofBits, Ideal.ieee, -EReal.coe_mul]
  norm_num

theorem bottom_bits : Ideal.ofBits .f32 4286578688#32 = ⊥ := by
  simp [Ideal.ofBits, Ideal.ieee]

/-- The new shift is real where the old one and the logits are. -/
theorem shift_real (i : grid0.Coords) (x0 : Vec Ideal S17 .i32) (w : FVec Ideal S80x8192 .f32) (m : Vec Ideal S80x16 .f32)
    (hw : ∀ j l, ∃ r : ℝ, w (ix2 j l) = r) (hm : ∀ j b, ∃ r : ℝ, m (ix2 j b) = r) (j : Fin 80) (b : Fin 16) :
    ∃ r : ℝ, shiftNew i x0 w m (ix2 j b) = r := by
  rw [shiftNew_apply]
  refine max_real (hm j b) ?_
  unfold column Scalar.select
  split
  · rw [top_apply, bottom_bits]
    exact fold_real _ ⟨0, Finset.mem_univ _⟩ _ (hw j)
  · exact ⟨_, floor_bits⟩

end Cert.KernelIdeal.Hand
-- ==== Proof.Sums.lean ====
/- Sums over the tokens of a bag: over a prefix of the tokens, over the next block of 8192, and the quotient of the weighted
   sum by the sum of weights, which no shift of the exponents changes. -/
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe

/-- A family over the tokens, continued by zero. -/
def onNat (g : Fin 32768 → ℝ) (i : ℕ) : ℝ := if h : i < 32768 then g ⟨i, h⟩ else 0

/-- The sum over the first `n` tokens. -/
def upTo (g : Fin 32768 → ℝ) (n : ℕ) : ℝ := ∑ i ∈ Finset.range n, onNat g i

theorem upTo_zero (g : Fin 32768 → ℝ) : upTo g 0 = 0 := Finset.sum_range_zero _

theorem upTo_all (g : Fin 32768 → ℝ) : upTo g 32768 = ∑ i, g i := by
  unfold upTo
  rw [Finset.sum_range]
  exact Finset.sum_congr rfl fun i _ => dif_pos i.isLt

theorem upTo_block (g : Fin 32768 → ℝ) (t : Fin cfg0.N) :
    upTo g (8192 * (t.val + 1)) = upTo g (8192 * t.val) + ∑ l : Fin 8192, g (token t l) := by
  unfold upTo
  rw [Nat.mul_add, Nat.mul_one, Finset.sum_range_add, Finset.sum_range (n := 8192)]
  exact congrArg (fun x => _ + x) (Finset.sum_congr rfl fun l _ => dif_pos (token_lt t l))

theorem upTo_mul (g : Fin 32768 → ℝ) (n : ℕ) (k : ℝ) : upTo g n * k = upTo (fun i => g i * k) n := by
  unfold upTo
  rw [Finset.sum_mul]
  refine Finset.sum_congr rfl fun i _ => ?_
  unfold onNat
  split
  · rfl
  · exact zero_mul k

/-- The weights of a bag under the shift `k`, and the weighted scores. -/
def wt (W : Fin 32768 → ℝ) (D : Fin 32768 → Prop) [DecidablePred D] (k : ℝ) (i : Fin 32768) : ℝ := if D i then Real.exp (W i - k) else 0
def wv (W V : Fin 32768 → ℝ) (D : Fin 32768 → Prop) [DecidablePred D] (k : ℝ) (i : Fin 32768) : ℝ := if D i then Real.exp (W i - k) * V i else 0

theorem wt_carry (W : Fin 32768 → ℝ) (D : Fin 32768 → Prop) [DecidablePred D] (k k' : ℝ) (i : Fin 32768) : wt W D k i * Real.exp (k - k') = wt W D k' i := by
  unfold wt
  split
  · rw [← Real.exp_add]; congr 1; ring
  · exact zero_mul _

theorem wv_carry (W V : Fin 32768 → ℝ) (D : Fin 32768 → Prop) [DecidablePred D] (k k' : ℝ) (i : Fin 32768) : wv W V D k i * Real.exp (k - k') = wv W V D k' i := by
  unfold wv
  split
  · rw [mul_right_comm, ← Real.exp_add]; congr 2; ring
  · exact zero_mul _

/-- The mean score of a bag under the softmax of its logits; zero for an empty bag. -/
def bagMean (W V : Fin 32768 → ℝ) (D : Fin 32768 → Prop) [DecidablePred D] : ℝ := (∑ i, wv W V D 0 i) / ∑ i, wt W D 0 i

theorem sum_wt_nonneg (W : Fin 32768 → ℝ) (D : Fin 32768 → Prop) [DecidablePred D] (k : ℝ) : 0 ≤ ∑ i, wt W D k i :=
  Finset.sum_nonneg fun i _ => by
    unfold wt
    split
    · exact (Real.exp_pos _).le
    · exact le_rfl

theorem bagMean_shift (W V : Fin 32768 → ℝ) (D : Fin 32768 → Prop) [DecidablePred D] (k : ℝ) :
    (∑ i, wv W V D k i) / ∑ i, wt W D k i = bagMean W V D := by
  unfold bagMean
  have e1 : ∑ i, wv W V D k i = (∑ i, wv W V D 0 i) * Real.exp (0 - k) := by
    rw [Finset.sum_mul]
    exact Finset.sum_congr rfl fun i _ => (wv_carry W V D 0 k i).symm
  have e2 : ∑ i, wt W D k i = (∑ i, wt W D 0 i) * Real.exp (0 - k) := by
    rw [Finset.sum_mul]
    exact Finset.sum_congr rfl fun i _ => (wt_carry W D 0 k i).symm
  rw [e1, e2]
  exact mul_div_mul_right _ _ (Real.exp_pos _).ne'

/-- The guarded quotient of the two sums is the bag's mean. -/
theorem guarded_quotient (W V : Fin 32768 → ℝ) (D : Fin 32768 → Prop) [DecidablePred D] (k : ℝ) (s n : EReal)
    (hs : s = ((∑ i, wt W D k i : ℝ) : EReal)) (hn : n = ((∑ i, wv W V D k i : ℝ) : EReal)) :
    (if 0 < s then Ideal.div n s else 0) = ((bagMean W V D : ℝ) : EReal) := by
  have h := sum_wt_nonneg W D k
  rw [← bagMean_shift W V D k, hs, hn]
  rcases h.eq_or_lt with e | e
  · rw [← e, EReal.coe_zero, if_neg (lt_irrefl _), div_zero, EReal.coe_zero]
  · rw [if_pos (EReal.coe_pos.mpr e), Ideal.div_coe e.ne', ← EReal.coe_mul, mul_one_div]

/-- The mean square of column `j` of the second weight matrix. -/
def meanSquare (z : FVec Ideal S64x10x8 .f32) (j : Fin 80) : EReal :=
  Ideal.div (∑ d : Fin 64, z (ix3 d (cls j) (smp j)) * z (ix3 d (cls j) (smp j))) (Ideal.ofBits FTy.f32 1115684864#32)

/-- The inputs are real where they are multiplied, and no token lies in two bags. -/
structure Given (x : FVec Ideal S32768x64 .f32) (u z : FVec Ideal S64x10x8 .f32) (cu : Vec Ideal S17 .i32) (X : Fin 32768 → Fin 64 → ℝ) (U H : Fin 64 → Fin 80 → ℝ) : Prop where
  x : ∀ i d, x (ix2 i d) = (X i d : EReal)
  u : ∀ d j, u (ix3 d (cls j) (smp j)) = (U d j : EReal)
  h : ∀ d j, z (ix3 d (cls j) (smp j)) * Ideal.rsqrt (meanSquare z j) = (H d j : EReal)
  one : ∀ (i : Fin 32768) b b', insideBit cu (BitVec.ofNat 32 i.val) b = 1#1 → insideBit cu (BitVec.ofNat 32 i.val) b' = 1#1 → b = b'

/-- Token `i` lies in bag `b`. -/
def In (cu : Vec Ideal S17 .i32) (b : Fin 16) (i : Fin 32768) : Prop := insideBit cu (BitVec.ofNat 32 i.val) b = 1#1

instance (cu : Vec Ideal S17 .i32) (b : Fin 16) (i : Fin 32768) : Decidable (In cu b i) := inferInstanceAs (Decidable (_ = _))

/-- The product of a token's features with a column. -/
def dotc (X : Fin 32768 → Fin 64 → ℝ) (U : Fin 64 → Fin 80 → ℝ) (j : Fin 80) (i : Fin 32768) : ℝ := ∑ d, U d j * X i d

end Cert.KernelIdeal.Hand
-- ==== Proof.Given.lean ====
/- What the stated precondition gives: each token's id names the bag whose bounds hold it, the tokens and the first
   weights are real, and no column of the second weights is zero. -/
module

public import proofs.«01_k».proof.Defs
public import proofs.«01_k».proof.Proof.Sums

@[expose] public section

set_option maxRecDepth 16384

noncomputable section

namespace Cert.Pre_bags_delimited.Hand

open Cert.Pre_bags_delimited
open Idealize.ShloMosaic Idealize.ShloMosaic.TcCoe
open Cert.KernelIdeal.Hand (insideBit In word lowAt highAt)

theorem facts : Cert.Pre_bags_delimited.Facts where
  bcast_S16_S16x1_0 := by decide
  bcast_S32768_S1x32768_1 := by decide
  bcast_S1x32768_S16x32768_0_1 := by decide
  bcast_S16x1_S16x32768_0_1 := by decide
  slices_S17_S16_0 := by decide
  slices_S17_S16_1 := by decide
  bcast_S_S32768x64 := by decide
  bcast_S_S64x10x8 := by decide
  reducesTo_S64x10x8_S10x8_d0 := by decide
  h_S_ := by decide
  bcast_S_S10x8 := by decide

instance : Cert.Pre_bags_delimited.Facts := facts

variable (x : FVec Ideal S32768x64 .f32) (ids : IVec S32768 32) (cu : IVec S17 32) (u z : FVec Ideal S64x10x8 .f32)

theorem infinity_bits : Ideal.ofBits .f32 2139095040#32 = ⊤ := by
  simp [Ideal.ofBits, Ideal.ieee]

theorem bottom_bits : Ideal.ofBits .f32 4286578688#32 = ⊥ := by
  simp [Ideal.ofBits, Ideal.ieee]

/-- A truth value that is one holds. -/
theorem of_bit {p : Prop} [Decidable p] (h : BitVec.ofBool (decide p) = 1#1) : p := by
  by_contra hp
  simp [hp] at h

/-- The equality test is one exactly when the two sides are equal. -/
theorem eq_bit {w : Nat} (a b : BitVec w) : IntOp.cmpi .eq a b = 1#1 ↔ a = b := by
  show BitVec.ofBool (a == b) = 1#1 ↔ a = b
  cases h : a == b
  · simpa using h
  · simpa using h

/-- A value whose absolute value is below infinity is real. -/
theorem real_of_abs {y : EReal} (h : max y (-y) < ⊤) : ∃ r : ℝ, y = r := by
  induction y using EReal.rec with
  | bot => simp at h
  | coe r => exact ⟨r, rfl⟩
  | top => simp at h

variable {x ids cu u z}

/-- A token's id names a bag exactly when its position lies between the bag's bounds. -/
theorem ids_name (h : (fn (F := Ideal) x ids cu u z).1 = fun _ => 1#1) (b : Fin 16) (i : Fin 32768) :
    ids (ix1 i) = BitVec.ofNat 32 b.val ↔ In cu b i := by
  have h := congrFun h (ix2 b i)
  revert h
  unfold fn fn_part1
  dsimp only
  pointwise
  intro h
  have e : (⟨1 + b.val, by omega⟩ : Fin 17) = highAt b := Fin.ext (Nat.add_comm _ _)
  have h : IntOp.cmpi .eq (ids (ix1 i)) (BitVec.ofNat 32 b.val) = insideBit cu (BitVec.ofNat 32 i.val) b := by
    rw [e] at h
    exact (eq_bit _ _).mp h
  show _ ↔ insideBit cu (BitVec.ofNat 32 i.val) b = 1#1
  rw [← h]
  exact (eq_bit _ _).symm

theorem tokens_real (h : (fn (F := Ideal) x ids cu u z).2.1 = fun _ => 1#1) (i : Fin 32768) (d : Fin 64) : ∃ r : ℝ, x (ix2 i d) = r := by
  have h := congrFun h (ix2 i d)
  revert h
  unfold fn fn_part1
  dsimp only
  pointwise
  intro h
  rw [infinity_bits] at h
  exact real_of_abs (of_bit h)

theorem columns_real (h : (fn (F := Ideal) x ids cu u z).2.2.1 = fun _ => 1#1) (d : Fin 64) (p : Fin 10) (r : Fin 8) : ∃ s : ℝ, u (ix3 d p r) = s := by
  have h := congrFun h (ix3 d p r)
  revert h
  unfold fn fn_part1
  dsimp only
  pointwise
  intro h
  rw [infinity_bits] at h
  exact real_of_abs (of_bit h)

theorem columns_nonzero (h : (fn (F := Ideal) x ids cu u z).2.2.2 = fun _ => 1#1) (p : Fin 10) (r : Fin 8) : ∃ d : Fin 64, z (ix3 d p r) ≠ 0 := by
  have h := congrFun h (ix2 p r)
  revert h
  unfold fn fn_part1
  dsimp only
  pointwise
  intro h
  rw [bottom_bits] at h
  rcases (Finset.lt_fold_max 0).mp (of_bit h) with h | ⟨d, -, h⟩
  · exact absurd h (by simp)
  · refine ⟨d, fun e => ?_⟩
    rw [e, Ideal.absf_def] at h
    simp at h

end Cert.Pre_bags_delimited.Hand
-- ==== Proof.Scale.lean ====
/- Dividing a column by the root of its mean square: the same as multiplying it by the inverse root, and real, for any
   column that is not all zero. -/
module

public import proofs.«01_k».proof.Proof.Sums

@[expose] public section

noncomputable section

namespace Cert.KernelIdeal.Hand

open Idealize.ShloMosaic

theorem sixty_four : Ideal.ofBits .f32 1115684864#32 = ((64 : ℝ) : EReal) := by
  simp [Ideal.ofBits, Ideal.ieee, -EReal.coe_mul]; norm_num

/-- A square is nonnegative. -/
theorem square_nonneg (y : EReal) : 0 ≤ y * y := by
  induction y using EReal.rec with
  | bot => simp
  | coe r => rw [← EReal.coe_mul]; exact EReal.coe_nonneg.mpr (mul_self_nonneg r)
  | top => simp

/-- The square of a value that is not zero is positive. -/
theorem square_pos {y : EReal} (h : y ≠ 0) : 0 < y * y := by
  induction y using EReal.rec with
  | bot => simp
  | coe r =>
    rw [← EReal.coe_mul]
    exact EReal.coe_pos.mpr (mul_self_pos.mpr (fun e => h (by rw [e]; rfl)))
  | top => simp

/-- A value whose square is below infinity is real. -/
theorem real_of_square {y : EReal} (h : y * y < ⊤) : ∃ r : ℝ, y = r := by
  induction y using EReal.rec with
  | bot => simp at h
  | coe r => exact ⟨r, rfl⟩
  | top => simp at h

theorem scaled (f : Fin 64 → EReal) (hf : ∃ d, f d ≠ 0) (q : EReal) (hq : q = Ideal.div (∑ d, f d * f d) (Ideal.ofBits .f32 1115684864#32)) (d : Fin 64) :
    (∃ r : ℝ, f d * Ideal.rsqrt q = r) ∧ Ideal.div (f d) (Ideal.sqrt q) = f d * Ideal.rsqrt q := by
  rw [sixty_four, Ideal.div_coe (by norm_num)] at hq
  have le : ∀ d, f d * f d ≤ ∑ d, f d * f d := fun d =>
    Finset.single_le_sum (f := fun d => f d * f d) (fun d _ => square_nonneg (f d)) (Finset.mem_univ d)
  obtain ⟨d0, h0⟩ := hf
  have pos : 0 < ∑ d, f d * f d := (square_pos h0).trans_le (le d0)
  generalize (∑ d, f d * f d) = S at hq le pos
  induction S using EReal.rec with
  | bot => exact absurd pos (by simp)
  | top =>
    rw [EReal.top_mul_coe_of_pos (by norm_num)] at hq
    rw [hq, Ideal.rsqrt_top, Ideal.sqrt_top, mul_zero]
    refine ⟨⟨0, rfl⟩, ?_⟩
    unfold Ideal.div
    simp
  | coe s =>
    have hs : 0 < s := EReal.coe_pos.mp pos
    have hr : 0 < s * (1 / 64) := by positivity
    obtain ⟨r, e⟩ := real_of_square ((le d).trans_lt (EReal.coe_lt_top s))
    rw [← EReal.coe_mul] at hq
    rw [hq, Ideal.rsqrt_coe, Ideal.sqrt_coe, if_neg hr.not_gt, if_neg hr.ne', if_neg hr.not_gt, Ideal.div_coe (Real.sqrt_pos.mpr hr).ne', one_div (Real.sqrt _), e]
    exact ⟨⟨_, (EReal.coe_mul _ _).symm⟩, rfl⟩

end Cert.KernelIdeal.Hand
-- ==== Proof.Rows.lean ====
/- The two indexed steps of the reference read at an index: taking, for each token, the row of its bag, and adding each
   token's row into its bag's. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-- How a token's row is taken, and how it is added. -/
abbrev gd := gather_S16x10x8_S32768x1_S32768x10x8_12_0_n_n_0_1_1108
abbrev sd := scatter_S16x10x8_S32768x1_S32768x10x8_12_0_0_1

/-- The small word `b`, read signed. -/
theorem toInt_bag (b : Fin 16) : (BitVec.ofNat 32 b.val).toInt = (b.val : Int) := by
  revert b; decide

theorem take_row (x : FVec Ideal S16x10x8 .f32) (idx : IVec S32768x1 32) (i : Fin 32768) (p : Fin 10) (r : Fin 8) (b : Fin 16)
    (h : idx (ix2 i 0) = BitVec.ofNat 32 b.val) : Host.gather gd x idx (ix3 i p r) = x (ix3 b p r) := by
  show x (GatherDims.operandIdx gd (ix3 i p r) idx) = _
  congr 1
  have e : (GatherDims.siIdx gd (ix3 i p r) ⟨0, by decide⟩ : S32768x1.Idx) = ix2 i 0 := by
    funext a
    match a with
    | ⟨0, _⟩ => rfl
    | ⟨1, _⟩ => rfl
  funext a; apply Fin.ext
  match a with
  | ⟨0, _⟩ =>
    show GatherDims.start gd (ix3 i p r) idx (0 : Fin 3) + GatherDims.batchCoord gd (ix3 i p r) (0 : Fin 3) + GatherDims.offCoord gd (ix3 i p r) (0 : Fin 3) = b.val
    have h1 : GatherDims.start gd (ix3 i p r) idx (0 : Fin 3) = min (idx (GatherDims.siIdx gd (ix3 i p r) ⟨0, by decide⟩)).toInt.toNat 15 := rfl
    have h2 : GatherDims.batchCoord gd (ix3 i p r) (0 : Fin 3) = 0 := rfl
    have h3 : GatherDims.offCoord gd (ix3 i p r) (0 : Fin 3) = 0 := rfl
    rw [h1, h2, h3, e, h, toInt_bag]
    omega
  | ⟨1, _⟩ =>
    show GatherDims.start gd (ix3 i p r) idx (1 : Fin 3) + GatherDims.batchCoord gd (ix3 i p r) (1 : Fin 3) + GatherDims.offCoord gd (ix3 i p r) (1 : Fin 3) = p.val
    have h1 : GatherDims.start gd (ix3 i p r) idx (1 : Fin 3) = 0 := rfl
    have h2 : GatherDims.batchCoord gd (ix3 i p r) (1 : Fin 3) = 0 := rfl
    have h3 : GatherDims.offCoord gd (ix3 i p r) (1 : Fin 3) = p.val := rfl
    omega
  | ⟨2, _⟩ =>
    show GatherDims.start gd (ix3 i p r) idx (2 : Fin 3) + GatherDims.batchCoord gd (ix3 i p r) (2 : Fin 3) + GatherDims.offCoord gd (ix3 i p r) (2 : Fin 3) = r.val
    have h1 : GatherDims.start gd (ix3 i p r) idx (2 : Fin 3) = 0 := rfl
    have h2 : GatherDims.batchCoord gd (ix3 i p r) (2 : Fin 3) = 0 := rfl
    have h3 : GatherDims.offCoord gd (ix3 i p r) (2 : Fin 3) = r.val := rfl
    omega

/-- Where a token's row lands: its bag's row, when the id names a bag. -/
theorem lands (idx : IVec S32768x1 32) (i : Fin 32768) (p p' : Fin 10) (r r' : Fin 8) (b : Fin 16) :
    ScatterDims.resultIdx? sd (ix3 i p r) idx = some (ix3 b p' r') ↔ idx (ix2 i 0) = BitVec.ofNat 32 b.val ∧ p = p' ∧ r = r' := by
  have e : (ScatterDims.siIdx sd (ix3 i p r) ⟨0, by decide⟩ : S32768x1.Idx) = ix2 i 0 := by
    funext a
    match a with
    | ⟨0, _⟩ => rfl
    | ⟨1, _⟩ => rfl
  have s0 : ScatterDims.start sd (ix3 i p r) idx (0 : Fin 3) = (idx (ix2 i 0)).toInt := by rw [← e]; rfl
  have s1 : ScatterDims.start sd (ix3 i p r) idx (1 : Fin 3) = 0 := rfl
  have s2 : ScatterDims.start sd (ix3 i p r) idx (2 : Fin 3) = 0 := rfl
  have w0 : ScatterDims.window sd (ix3 i p r) (0 : Fin 3) = 0 := rfl
  have w1 : ScatterDims.window sd (ix3 i p r) (1 : Fin 3) = p.val := rfl
  have w2 : ScatterDims.window sd (ix3 i p r) (2 : Fin 3) = r.val := rfl
  have hp := p.isLt
  have hr := r.isLt
  have hb := b.isLt
  unfold ScatterDims.resultIdx?
  constructor
  · intro h
    split at h
    · rename_i hall
      have h := Option.some.inj h
      have g0 : (ScatterDims.start sd (ix3 i p r) idx (0 : Fin 3) + ScatterDims.window sd (ix3 i p r) (0 : Fin 3)).toNat = b.val := congrArg Fin.val (congrFun h (0 : Fin 3))
      have g1 : (ScatterDims.start sd (ix3 i p r) idx (1 : Fin 3) + ScatterDims.window sd (ix3 i p r) (1 : Fin 3)).toNat = p'.val := congrArg Fin.val (congrFun h (1 : Fin 3))
      have g2 : (ScatterDims.start sd (ix3 i p r) idx (2 : Fin 3) + ScatterDims.window sd (ix3 i p r) (2 : Fin 3)).toNat = r'.val := congrArg Fin.val (congrFun h (2 : Fin 3))
      have k0 := (hall (0 : Fin 3)).1
      rw [s0, w0] at g0 k0
      rw [s1, w1] at g1
      rw [s2, w2] at g2
      refine ⟨?_, Fin.ext (by omega), Fin.ext (by omega)⟩
      apply BitVec.eq_of_toInt_eq
      rw [toInt_bag]
      omega
    · exact absurd h (by simp)
  · rintro ⟨h, rfl, rfl⟩
    rw [h, toInt_bag] at s0
    rw [dif_pos]
    · congr 1
      funext a; apply Fin.ext
      match a with
      | ⟨0, _⟩ => show (ScatterDims.start sd (ix3 i p r) idx (0 : Fin 3) + ScatterDims.window sd (ix3 i p r) (0 : Fin 3)).toNat = b.val; rw [s0, w0]; omega
      | ⟨1, _⟩ => show (ScatterDims.start sd (ix3 i p r) idx (1 : Fin 3) + ScatterDims.window sd (ix3 i p r) (1 : Fin 3)).toNat = p.val; rw [s1, w1]; omega
      | ⟨2, _⟩ => show (ScatterDims.start sd (ix3 i p r) idx (2 : Fin 3) + ScatterDims.window sd (ix3 i p r) (2 : Fin 3)).toNat = r.val; rw [s2, w2]; omega
    · intro a
      match a with
      | ⟨0, _⟩ => show 0 ≤ ScatterDims.start sd (ix3 i p r) idx (0 : Fin 3) + ScatterDims.window sd (ix3 i p r) (0 : Fin 3) ∧ ScatterDims.start sd (ix3 i p r) idx (0 : Fin 3) + ScatterDims.window sd (ix3 i p r) (0 : Fin 3) < (16 : Nat); rw [s0, w0]; omega
      | ⟨1, _⟩ => show 0 ≤ ScatterDims.start sd (ix3 i p r) idx (1 : Fin 3) + ScatterDims.window sd (ix3 i p r) (1 : Fin 3) ∧ ScatterDims.start sd (ix3 i p r) idx (1 : Fin 3) + ScatterDims.window sd (ix3 i p r) (1 : Fin 3) < (10 : Nat); rw [s1, w1]; omega
      | ⟨2, _⟩ => show 0 ≤ ScatterDims.start sd (ix3 i p r) idx (2 : Fin 3) + ScatterDims.window sd (ix3 i p r) (2 : Fin 3) ∧ ScatterDims.start sd (ix3 i p r) idx (2 : Fin 3) + ScatterDims.window sd (ix3 i p r) (2 : Fin 3) < (8 : Nat); rw [s2, w2]; omega

theorem add_rows (x : FVec Ideal S16x10x8 .f32) (idx : IVec S32768x1 32) (upd : FVec Ideal S32768x10x8 .f32) (b : Fin 16) (p : Fin 10) (r : Fin 8) :
    Host.scatterAdd sd x idx upd (ix3 b p r) = x (ix3 b p r) + ∑ i : Fin 32768, if idx (ix2 i 0) = BitVec.ofNat 32 b.val then upd (ix3 i p r) else 0 := by
  classical
  show Ideal.hostScatterAdd sd x idx upd (ix3 b p r) = _
  unfold Ideal.hostScatterAdd
  rw [← Finset.sum_filter]
  have key : ∀ u : S32768x10x8.Idx, ScatterDims.resultIdx? sd u idx = some (ix3 b p r) → idx (ix2 (u 0) 0) = BitVec.ofNat 32 b.val ∧ u = ix3 (u 0) p r := by
    intro u
    idx_vars u
    intro h
    obtain ⟨h1, rfl, rfl⟩ := (lands idx _ _ p _ r b).mp h
    exact ⟨h1, rfl⟩
  refine congrArg (fun y => _ + y) (Finset.sum_nbij' (fun u => u 0) (fun i => ix3 i p r) ?_ ?_ ?_ ?_ ?_)
  · intro u hu
    exact Finset.mem_filter.mpr ⟨Finset.mem_univ _, (key u (Finset.mem_filter.mp hu).2).1⟩
  · intro i hi
    exact Finset.mem_filter.mpr ⟨Finset.mem_univ _, (lands idx i p p r r b).mpr ⟨(Finset.mem_filter.mp hi).2, rfl, rfl⟩⟩
  · intro u hu
    exact (key u (Finset.mem_filter.mp hu).2).2.symm
  · intro i _
    rfl
  · intro u hu
    exact congrArg upd (key u (Finset.mem_filter.mp hu).2).2

end Cert.ReferenceIdeal.Hand
-- ==== Proof.RefForm.lean ====
/- The reference's result in named stages: the scale, the logits, the largest logit of each bag, the weights, the bags'
   sums, and the standardised result. -/
module

public import proofs.«01_k».proof.Proof.Rows

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

variable (x : FVec Ideal S32768x64 .f32) (ids : IVec S32768 32) (z : FVec Ideal S64x10x8 .f32)

/-- The scale of each column. -/
def scale : FVec Ideal S1x10x8 .f32 :=
  Host.sqrt (Host.divf (broadcastInDim S1x10x8 ![1, 2] bcast_S10x8_S1x10x8_1_2 (Host.reduceAdd (mulf z z) (constant S_ .f32 0x00000000#32) reducesTo_S64x10x8_S10x8_d0 h_S_))
    (broadcastInDim S1x10x8 ![] bcast_S_S1x10x8 (constant S_ .f32 0x42800000#32)))

/-- The second weights, each column divided by its scale. -/
def eta : FVec Ideal S64x10x8 .f32 := Host.divf z (broadcastInDim S64x10x8 ![0, 1, 2] bcast_S1x10x8_S64x10x8_0_1_2 (scale z))

/-- The products of the tokens with a set of columns. -/
def dots (u : FVec Ideal S64x10x8 .f32) : FVec Ideal S32768x10x8 .f32 := Host.dotGeneral dot_S32768x64_S64x10x8_S32768x10x8_1_0_0_12_n_n none x u

/-- Which bag each token's id names. -/
def named : IVec S16x32768 1 :=
  cmpi .eq (broadcastInDim S16x32768 ![0, 1] bcast_S1x32768_S16x32768_0_1 (broadcastInDim S1x32768 ![1] bcast_S32768_S1x32768_1 ids))
    (broadcastInDim S16x32768 ![0, 1] bcast_S16x1_S16x32768_0_1 (broadcastInDim S16x1 ![0] bcast_S16_S16x1_0 (iotaInDim S16 32 0)))

/-- The largest logit of each bag. -/
def tops (w : FVec Ideal S32768x10x8 .f32) : FVec Ideal S16x10x8 .f32 :=
  Host.reduce FloatOps.maximumf
    (select (broadcastInDim S16x32768x10x8 ![0, 1, 2, 3] bcast_S16x32768x1x1_S16x32768x10x8_0_1_2_3 (broadcastInDim S16x32768x1x1 ![0, 1] bcast_S16x32768_S16x32768x1x1_0_1 (named ids)))
      (broadcastInDim S16x32768x10x8 ![0, 1, 2, 3] bcast_S1x32768x10x8_S16x32768x10x8_0_1_2_3 (broadcastInDim S1x32768x10x8 ![1, 2, 3] bcast_S32768x10x8_S1x32768x10x8_1_2_3 w))
      (broadcastInDim S16x32768x10x8 ![] bcast_S_S16x32768x10x8 (id (constant S_ .f32 0xFF800000#32))))
    (constant S_ .f32 0xFF800000#32) reducesTo_S16x32768x10x8_S16x10x8_d1 h_S_

/-- The ids as the reference indexes with them: a negative one counts from the end. -/
def wrapped : IVec S32768x1 32 :=
  broadcastInDim S32768x1 ![0] bcast_S32768_S32768x1_0
    (select (cmpi .slt ids (broadcastInDim S32768 ![] bcast_S_S32768 (constantI S_ 32 0#32))) (addi ids (broadcastInDim S32768 ![] bcast_S_S32768 (constantI S_ 32 16#32))) ids)

/-- The exponentials of the logits, shifted by the largest of the token's bag. -/
def exps (w : FVec Ideal S32768x10x8 .f32) : FVec Ideal S32768x10x8 .f32 := Host.exp (subf w (Host.gather gd (tops ids w) (wrapped ids)))

/-- Each bag's sum of rows. -/
def bagSums (e : FVec Ideal S32768x10x8 .f32) : FVec Ideal S16x10x8 .f32 :=
  Host.scatterAdd sd (broadcastInDim S16x10x8 ![] bcast_S_S16x10x8 (constant S_ .f32 0x00000000#32)) (broadcastInDim S32768x1 ![0] bcast_S32768_S32768x1_0 ids) e

/-- The softmax weights within each bag. -/
def softmax (w : FVec Ideal S32768x10x8 .f32) : FVec Ideal S32768x10x8 .f32 := Host.divf (exps ids w) (Host.gather gd (bagSums ids (exps ids w)) (wrapped ids))

/-- The mean over the bags. -/
def meanOf (y : FVec Ideal S16x10x8 .f32) : FVec Ideal S10x8 .f32 :=
  Host.divf (Host.reduceAdd y (constant S_ .f32 0x00000000#32) reducesTo_S16x10x8_S10x8_d0 h_S_) (broadcastInDim S10x8 ![] bcast_S_S10x8 (constant S_ .f32 0x41800000#32))

/-- The distance from the mean, as the spread takes it. -/
def awayOf (y : FVec Ideal S16x10x8 .f32) : FVec Ideal S16x10x8 .f32 :=
  subf y (broadcastInDim S16x10x8 ![0, 1, 2] bcast_S1x10x8_S16x10x8_0_1_2
    (Host.divf (broadcastInDim S1x10x8 ![1, 2] bcast_S10x8_S1x10x8_1_2 (Host.reduceAdd y (constant S_ .f32 0x00000000#32) reducesTo_S16x10x8_S10x8_d0 h_S_)) (broadcastInDim S1x10x8 ![] bcast_S_S1x10x8 (constant S_ .f32 0x41800000#32))))

/-- The divisor of the variance. -/
def freedom : FVec Ideal S_ .f32 := subf (constant S_ .f32 0x41800000#32) (sitofp .f32 (constantI S_ 32 1#32))

/-- The spread over the bags. -/
def spreadOf (y : FVec Ideal S16x10x8 .f32) : FVec Ideal S10x8 .f32 :=
  Host.sqrt (select (broadcastInDim S10x8 ![] bcast_S_S10x8 (cmpf .ogt freedom (constant S_ .f32 0x00000000#32)))
    (Host.divf (Host.reduceAdd (mulf (awayOf y) (awayOf y)) (constant S_ .f32 0x00000000#32) reducesTo_S16x10x8_S10x8_d0 h_S_) (broadcastInDim S10x8 ![] bcast_S_S10x8 freedom))
    (broadcastInDim S10x8 ![] bcast_S_S10x8 (id (constant S_ .f32 0x7FC00000#32))))

/-- The spread, one where it is not a number. -/
def spreadSafeOf (y : FVec Ideal S16x10x8 .f32) : FVec Ideal S10x8 .f32 :=
  select (cmpf .une (spreadOf y) (spreadOf y)) (broadcastInDim S10x8 ![] bcast_S_S10x8 (id (constant S_ .f32 0x3F800000#32))) (spreadOf y)

/-- The standardised rows, each column scaled. -/
def finish (q : FVec Ideal S1x10x8 .f32) (y : FVec Ideal S16x10x8 .f32) : FVec Ideal S16x10x8 .f32 :=
  Host.divf (mulf (broadcastInDim S16x10x8 ![0, 1, 2] bcast_S1x10x8_S16x10x8_0_1_2 q)
      (subf y (broadcastInDim S16x10x8 ![0, 1, 2] bcast_S1x10x8_S16x10x8_0_1_2 (broadcastInDim S1x10x8 ![1, 2] bcast_S10x8_S1x10x8_1_2 (meanOf y)))))
    (broadcastInDim S16x10x8 ![0, 1, 2] bcast_S1x10x8_S16x10x8_0_1_2 (broadcastInDim S1x10x8 ![1, 2] bcast_S10x8_S1x10x8_1_2 (spreadSafeOf y)))

/-- The bags' mean scores. -/
def means (u : FVec Ideal S64x10x8 .f32) : FVec Ideal S16x10x8 .f32 := bagSums ids (mulf (softmax ids (dots x u)) (dots x (eta z)))

theorem result_form (m : (ℓ : Loc nD τ sig) → Buf (Elt Ideal) ℓ) (c : Dev nD) :
    res_main_v57 m c = finish (scale (m ((c : Thread nD τ).loc main_arg4)))
      (means (m ((c : Thread nD τ).loc main_arg0)) (m ((c : Thread nD τ).loc main_arg1)) (m ((c : Thread nD τ).loc main_arg4)) (m ((c : Thread nD τ).loc main_arg3))) := rfl

end Cert.ReferenceIdeal.Hand
-- ==== Proof.RefReads.lean ====
/- The reference's stages read at an index, on the extended reals. -/
module

public import proofs.«01_k».proof.Proof.RefForm

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

theorem scale_apply (z : FVec Ideal S64x10x8 .f32) (p : Fin 10) (r : Fin 8) :
    scale z (ix3 0 p r) = Ideal.sqrt (Ideal.div (∑ d : Fin 64, z (ix3 d p r) * z (ix3 d p r)) (Ideal.ofBits .f32 0x42800000#32)) := by
  unfold scale
  pointwise

theorem eta_apply (z : FVec Ideal S64x10x8 .f32) (d : Fin 64) (p : Fin 10) (r : Fin 8) :
    eta z (ix3 d p r) = Ideal.div (z (ix3 d p r)) (scale z (ix3 0 p r)) := by
  unfold eta
  generalize scale z = q
  pointwise

theorem dots_apply (x : FVec Ideal S32768x64 .f32) (u : FVec Ideal S64x10x8 .f32) (i : Fin 32768) (p : Fin 10) (r : Fin 8) :
    dots x u (ix3 i p r) = ∑ d : Fin 64, x (ix2 i d) * u (ix3 d p r) := by
  unfold dots
  pointwise

theorem named_apply (ids : IVec S32768 32) (b : Fin 16) (i : Fin 32768) :
    named ids (ix2 b i) = IntOp.cmpi .eq (ids (ix1 i)) (BitVec.ofNat 32 b.val) := by
  unfold named
  pointwise

theorem tops_apply (ids : IVec S32768 32) (w : FVec Ideal S32768x10x8 .f32) (b : Fin 16) (p : Fin 10) (r : Fin 8) :
    tops ids w (ix3 b p r) = Finset.fold max ⊥ (fun i : Fin 32768 => if ids (ix1 i) = BitVec.ofNat 32 b.val then w (ix3 i p r) else ⊥) Finset.univ := by
  unfold tops
  pointwise
  have e : (id (constant (F := Ideal) S_ .f32 4286578688#32) ix0 : EReal) = ⊥ := by
    show Ideal.ofBits .f32 4286578688#32 = ⊥
    simp [Ideal.ofBits, Ideal.ieee]
  have e' : Ideal.ofBits .f32 4286578688#32 = ⊥ := e
  rw [e']
  refine congrArg (fun f => Finset.fold max ⊥ f Finset.univ) (funext fun i => ?_)
  rw [named_apply, e]
  by_cases h : ids (ix1 i) = BitVec.ofNat 32 b.val
  · rw [if_pos h, h]
    simp [Scalar.select, IntOp.cmpi]
  · have hf : (ids (ix1 i) == BitVec.ofNat 32 b.val) = false := by simpa using h
    rw [if_neg h]
    simp [Scalar.select, IntOp.cmpi, hf]

theorem wrapped_apply (ids : IVec S32768 32) (i : Fin 32768) (b : Fin 16) (h : ids (ix1 i) = BitVec.ofNat 32 b.val) :
    wrapped ids (ix2 i 0) = BitVec.ofNat 32 b.val := by
  unfold wrapped
  pointwise
  rw [h]
  clear h
  revert b
  decide

theorem bagSums_apply (ids : IVec S32768 32) (e : FVec Ideal S32768x10x8 .f32) (b : Fin 16) (p : Fin 10) (r : Fin 8) :
    bagSums ids e (ix3 b p r) = ∑ i : Fin 32768, if ids (ix1 i) = BitVec.ofNat 32 b.val then e (ix3 i p r) else 0 := by
  unfold bagSums
  rw [add_rows]
  pointwise

theorem awayOf_apply (y : FVec Ideal S16x10x8 .f32) (b : Fin 16) (p : Fin 10) (r : Fin 8) :
    awayOf y (ix3 b p r) = y (ix3 b p r) - Ideal.div (∑ b : Fin 16, y (ix3 b p r)) (Ideal.ofBits .f32 0x41800000#32) := by
  unfold awayOf
  pointwise

theorem spreadOf_apply (y : FVec Ideal S16x10x8 .f32) (p : Fin 10) (r : Fin 8) :
    spreadOf y (ix2 p r) = Ideal.sqrt (Ideal.div (∑ b : Fin 16, awayOf y (ix3 b p r) * awayOf y (ix3 b p r)) (Ideal.ofBits .f32 0x41700000#32)) := by
  unfold spreadOf
  generalize awayOf y = a
  pointwise
  have e : freedom ix0 = ((15 : ℝ) : EReal) := by
    show Ideal.ofBits .f32 0x41800000#32 - (((1 : Int) : ℝ) : EReal) = _
    rw [show Ideal.ofBits .f32 0x41800000#32 = ((16 : ℝ) : EReal) by simp [Ideal.ofBits, Ideal.ieee, -EReal.coe_mul]; norm_num, ← EReal.coe_sub]
    norm_num
  have e' : Ideal.ofBits .f32 1097859072#32 = ((15 : ℝ) : EReal) := by
    simp [Ideal.ofBits, Ideal.ieee, -EReal.coe_mul]; norm_num
  rw [e, e', if_pos (EReal.coe_pos.mpr (by norm_num))]

theorem spreadSafeOf_apply (y : FVec Ideal S16x10x8 .f32) (p : Fin 10) (r : Fin 8) : spreadSafeOf y (ix2 p r) = spreadOf y (ix2 p r) := by
  unfold spreadSafeOf
  generalize spreadOf y = a
  pointwise
  exact if_neg (fun h => h rfl)

theorem finish_apply (q : FVec Ideal S1x10x8 .f32) (y : FVec Ideal S16x10x8 .f32) (b : Fin 16) (p : Fin 10) (r : Fin 8) :
    finish q y (ix3 b p r) = Ideal.div (q (ix3 0 p r) * awayOf y (ix3 b p r)) (spreadOf y (ix2 p r)) := by
  rw [← spreadSafeOf_apply, awayOf_apply]
  unfold finish meanOf
  generalize spreadSafeOf y = a
  pointwise

end Cert.ReferenceIdeal.Hand
-- ==== Proof.RefValue.lean ====
/- The reference's bag means over real logits: the softmax-weighted mean of the bag's tokens, zero for an empty bag. -/
module

public import proofs.«01_k».proof.Proof.RefReads
public import proofs.«01_k».proof.Proof.Sums

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.KernelIdeal.Hand (wt wv bagMean bagMean_shift coe_sum)

variable {ids : IVec S32768 32} {w t : FVec Ideal S32768x10x8 .f32} {W V : Fin 32768 → ℝ} {D : Fin 32768 → Prop} [DecidablePred D]
variable {b : Fin 16} {p : Fin 10} {r : Fin 8}

/-- The largest logit of a bag that holds a token is real. -/
theorem tops_real (hw : ∀ i, w (ix3 i p r) = (W i : EReal)) {i0 : Fin 32768} (h0 : ids (ix1 i0) = BitVec.ofNat 32 b.val) :
    ∃ T : ℝ, tops ids w (ix3 b p r) = T := by
  rw [tops_apply]
  have above : (⊥ : EReal) < Finset.fold max ⊥ (fun i : Fin 32768 => if ids (ix1 i) = BitVec.ofNat 32 b.val then w (ix3 i p r) else ⊥) Finset.univ := by
    refine (Finset.lt_fold_max _).mpr (Or.inr ⟨i0, Finset.mem_univ _, ?_⟩)
    rw [if_pos h0, hw]
    exact EReal.bot_lt_coe _
  have below : Finset.fold max ⊥ (fun i : Fin 32768 => if ids (ix1 i) = BitVec.ofNat 32 b.val then w (ix3 i p r) else ⊥) Finset.univ < (⊤ : EReal) := by
    refine (Finset.fold_max_lt _).mpr ⟨bot_lt_top, fun i _ => ?_⟩
    split
    · rw [hw]; exact EReal.coe_lt_top _
    · exact bot_lt_top
  exact ⟨_, (EReal.coe_toReal below.ne above.ne').symm⟩

/-- The exponential of a bag's token. -/
theorem exps_apply {i : Fin 32768} (h : ids (ix1 i) = BitVec.ofNat 32 b.val) :
    exps ids w (ix3 i p r) = Ideal.exp (w (ix3 i p r) - tops ids w (ix3 b p r)) := by
  unfold exps
  rw [← take_row (tops ids w) (wrapped ids) i p r b (wrapped_apply ids i b h)]
  rfl

/-- The softmax weight of a bag's token. -/
theorem softmax_apply {i : Fin 32768} (h : ids (ix1 i) = BitVec.ofNat 32 b.val) :
    softmax ids w (ix3 i p r) = Ideal.div (exps ids w (ix3 i p r)) (bagSums ids (exps ids w) (ix3 b p r)) := by
  unfold softmax
  generalize exps ids w = e
  generalize bagSums ids e = s
  rw [← take_row s (wrapped ids) i p r b (wrapped_apply ids i b h)]
  rfl

/-- A bag's sum of exponentials. -/
theorem total_apply (hw : ∀ i, w (ix3 i p r) = (W i : EReal)) (hid : ∀ i, ids (ix1 i) = BitVec.ofNat 32 b.val ↔ D i) {T : ℝ} (hT : tops ids w (ix3 b p r) = T) :
    bagSums ids (exps ids w) (ix3 b p r) = ((∑ i, wt W D T i : ℝ) : EReal) := by
  rw [bagSums_apply, coe_sum]
  refine Finset.sum_congr rfl fun i _ => ?_
  unfold wt
  by_cases h : D i
  · rw [if_pos ((hid i).mpr h), if_pos h, exps_apply ((hid i).mpr h), hw, hT, ← EReal.coe_sub, Ideal.exp_coe]
  · rw [if_neg (fun e => h ((hid i).mp e)), if_neg h, EReal.coe_zero]

theorem product_apply (a t : FVec Ideal S32768x10x8 .f32) (i : Fin 32768) : mulf a t (ix3 i p r) = a (ix3 i p r) * t (ix3 i p r) := rfl

/-- The bag's weighted mean. -/
theorem bag_value (hw : ∀ i, w (ix3 i p r) = (W i : EReal)) (ht : ∀ i, t (ix3 i p r) = (V i : EReal))
    (hid : ∀ i, ids (ix1 i) = BitVec.ofNat 32 b.val ↔ D i) :
    bagSums ids (mulf (softmax ids w) t) (ix3 b p r) = ((bagMean W V D : ℝ) : EReal) := by
  rw [bagSums_apply]
  by_cases hD : ∃ i, D i
  · obtain ⟨i0, h0⟩ := hD
    obtain ⟨T, hT⟩ := tops_real hw ((hid i0).mpr h0)
    have pos : 0 < ∑ i, wt W D T i := by
      refine Finset.sum_pos' (fun i _ => ?_) ⟨i0, Finset.mem_univ _, ?_⟩
      · unfold wt
        split
        · exact (Real.exp_pos _).le
        · exact le_rfl
      · unfold wt
        rw [if_pos h0]
        exact Real.exp_pos _
    rw [← bagMean_shift W V D T, Finset.sum_div, coe_sum]
    refine Finset.sum_congr rfl fun i _ => ?_
    unfold wv
    by_cases h : D i
    · have hi := (hid i).mpr h
      rw [if_pos hi, if_pos h]
      rw [product_apply, softmax_apply hi, total_apply hw hid hT, exps_apply hi, hw, hT, ht, ← EReal.coe_sub, Ideal.exp_coe, Ideal.div_coe pos.ne',
        ← EReal.coe_mul, ← EReal.coe_mul]
      refine congrArg (fun q : ℝ => (q : EReal)) ?_
      generalize (∑ i, wt W D T i) = q
      ring
    · rw [if_neg (fun e => h ((hid i).mp e)), if_neg h, zero_div, EReal.coe_zero]
  · have none : ∀ i, ¬ D i := fun i h => hD ⟨i, h⟩
    have e : bagMean W V D = 0 := by
      unfold bagMean
      rw [Finset.sum_eq_zero (fun i _ => by unfold wv; rw [if_neg (none i)]), zero_div]
    rw [e, EReal.coe_zero]
    exact Finset.sum_eq_zero fun i _ => if_neg fun h => none i ((hid i).mp h)

end Cert.ReferenceIdeal.Hand
-- ==== Proof.Meet.lean ====
/- The reference's bag means and the kernel's are the same numbers, on arguments that satisfy the precondition. -/
module

public import proofs.«01_k».proof.Proof.Given
public import proofs.«01_k».proof.Proof.Scale
public import proofs.«01_k».proof.Proof.RefValue

@[expose] public section

set_option maxRecDepth 16384

noncomputable section

namespace Cert.Pre_bags_delimited.Hand

open Cert.Pre_bags_delimited
open Idealize.ShloMosaic Idealize.ShloMosaic.TcCoe
open Cert.KernelIdeal.Hand (insideBit In cls smp Given dotc bagMean meanSquare scaled coe_sum)
open Cert.ReferenceIdeal.Hand (means dots eta scale toInt_bag dots_apply eta_apply scale_apply bag_value)

variable {x : FVec Ideal S32768x64 .f32} {ids : IVec S32768 32} {cu : IVec S17 32} {u z : FVec Ideal S64x10x8 .f32}

theorem bag_inj {b b' : Fin 16} (h : BitVec.ofNat 32 b.val = BitVec.ofNat 32 b'.val) : b = b' := by
  have e := congrArg BitVec.toInt h
  rw [toInt_bag, toInt_bag] at e
  exact Fin.ext (by omega)

/-- What the kernel's side needs, from the precondition. -/
theorem given (h1 : (fn (F := Ideal) x ids cu u z).1 = fun _ => 1#1) (h2 : (fn (F := Ideal) x ids cu u z).2.1 = fun _ => 1#1)
    (h3 : (fn (F := Ideal) x ids cu u z).2.2.1 = fun _ => 1#1) (h4 : (fn (F := Ideal) x ids cu u z).2.2.2 = fun _ => 1#1) :
    ∃ X U H, Given x u z cu X U H := by
  choose X hX using tokens_real h2
  choose U hU using columns_real h3
  have hz : ∀ (d : Fin 64) (j : Fin 80), ∃ s : ℝ, z (ix3 d (cls j) (smp j)) * Ideal.rsqrt (meanSquare z j) = s := fun d j =>
    (scaled (fun d => z (ix3 d (cls j) (smp j))) (columns_nonzero h4 (cls j) (smp j)) _ rfl d).1
  choose H hH using hz
  exact ⟨X, fun d j => U d (cls j) (smp j), H, hX, fun d j => hU d (cls j) (smp j), hH, fun i b b' e e' =>
    bag_inj (((ids_name h1 b i).mpr e).symm.trans ((ids_name h1 b' i).mpr e'))⟩

/-- The reference's bag means. -/
theorem means_value (h1 : (fn (F := Ideal) x ids cu u z).1 = fun _ => 1#1) (h4 : (fn (F := Ideal) x ids cu u z).2.2.2 = fun _ => 1#1)
    {X : Fin 32768 → Fin 64 → ℝ} {U H : Fin 64 → Fin 80 → ℝ} (g : Given x u z cu X U H) (b : Fin 16) (j : Fin 80) :
    means x ids z u (ix3 b (cls j) (smp j)) = ((bagMean (dotc X U j) (dotc X H j) (In cu b) : ℝ) : EReal) := by
  refine bag_value (fun i => ?_) (fun i => ?_) (fun i => ids_name h1 b i)
  · unfold dotc
    rw [dots_apply, coe_sum]
    refine Finset.sum_congr rfl fun d _ => ?_
    rw [g.x, g.u, ← EReal.coe_mul, mul_comm]
  · unfold dotc
    rw [dots_apply, coe_sum]
    refine Finset.sum_congr rfl fun d _ => ?_
    have e : eta z (ix3 d (cls j) (smp j)) = (H d j : EReal) := by
      rw [eta_apply, scale_apply, ← g.h d j]
      exact (scaled (fun d => z (ix3 d (cls j) (smp j))) (columns_nonzero h4 (cls j) (smp j)) _ rfl d).2
    rw [g.x, e, ← EReal.coe_mul, mul_comm]

end Cert.Pre_bags_delimited.Hand
-- ==== Proof.Invariant.lean ====
/- What the running arrays hold after each grid point, and the result the last point writes. -/
module

public import proofs.«01_k».proof.Proof.Sums
public import proofs.«01_k».proof.Proof.Gen.KernelIdeal.Value

@[expose] public section

set_option maxRecDepth 16384

noncomputable section

namespace Cert.KernelIdeal.Hand

open Cert.KernelIdeal Cert.KernelIdeal.Gen Cert.KernelIdeal.Value
open Idealize.ShloMosaic Idealize.ShloMosaic.TcCoe

variable {m : (ℓ : Loc nD τ sig) → Buf (Elt Ideal) ℓ} {c : Dev nD}
variable {X : Fin 32768 → Fin 64 → ℝ} {U H : Fin 64 → Fin 80 → ℝ}

theorem logits_real (g : Given (m ((c : Thread nD τ).loc main_arg0)) (m ((c : Thread nD τ).loc main_arg3)) (m ((c : Thread nD τ).loc main_arg4)) (m ((c : Thread nD τ).loc main_arg2)) X U H) (t : Fin cfg0.N) (j : Fin 80) (l : Fin 8192) :
    k0_pay13 (iblk m c 1 t) (iblk m c 2 t) (ix2 j l) = ((dotc X U j (token t l) : ℝ) : EReal) := by
  rw [logits_apply]
  unfold dotc
  rw [coe_sum]
  refine Finset.sum_congr rfl fun d _ => ?_
  rw [upper_rows, tokens_block, g.x, g.u, EReal.coe_mul]

theorem meanSquare_block (t : Fin cfg0.N) (j : Fin 80) : k0_pay12 (iblk m c 2 t) (ix2 j 0) = meanSquare (m ((c : Thread nD τ).loc main_arg4)) j := by
  rw [meanSquare_apply]
  unfold meanSquare
  refine congrArg (fun x => Ideal.div x _) (Finset.sum_congr rfl fun d _ => ?_)
  rw [lower_rows]

theorem scores_real (g : Given (m ((c : Thread nD τ).loc main_arg0)) (m ((c : Thread nD τ).loc main_arg3)) (m ((c : Thread nD τ).loc main_arg4)) (m ((c : Thread nD τ).loc main_arg2)) X U H) (t : Fin cfg0.N) (j : Fin 80) (l : Fin 8192) :
    k0_pay14 (iblk m c 1 t) (iblk m c 2 t) (ix2 j l) = ((dotc X H j (token t l) : ℝ) : EReal) := by
  rw [scores_apply, meanSquare_block]
  unfold dotc
  rw [coe_sum]
  refine Finset.sum_congr rfl fun d _ => ?_
  rw [lower_rows, tokens_block, g.h, g.x, EReal.coe_mul]

theorem insideBit_block (t : Fin cfg0.N) (w : BitVec 32) (b : Fin 16) : insideBit (iblk m c 0 t) w b = insideBit (m ((c : Thread nD τ).loc main_arg2)) w b := by
  unfold insideBit
  rw [bounds_block, bounds_block]
  rfl

theorem member_real (t : Fin cfg0.N) (b : Fin 16) (l : Fin 8192) :
    member (grid0.coords t) (iblk m c 0 t) (ix2 b l) = ((if In (m ((c : Thread nD τ).loc main_arg2)) b (token t l) then 1 else 0 : ℝ) : EReal) := by
  rw [member_apply, bit_real, pos_apply, insideBit_block]
  rfl

variable (m c X U H) in
/-- The three running arrays after the first `n` tokens. -/
def Holds (n : ℕ) (a s w : Vec Ideal S80x16 .f32) : Prop :=
  ∃ M : Fin 80 → Fin 16 → ℝ, ∀ j b, a (ix2 j b) = (M j b : EReal)
    ∧ s (ix2 j b) = ((upTo (wt (dotc X U j) (In (m ((c : Thread nD τ).loc main_arg2)) b) (M j b)) n : ℝ) : EReal)
    ∧ w (ix2 j b) = ((upTo (wv (dotc X U j) (dotc X H j) (In (m ((c : Thread nD τ).loc main_arg2)) b) (M j b)) n : ℝ) : EReal)

theorem holds_start : Holds m c X U H 0 (k0_pay6 (F := Ideal)) (k0_pay7 (F := Ideal)) (k0_pay8 (F := Ideal)) :=
  ⟨fun _ _ => _, fun j b => ⟨floor_apply j b, by rw [zeroDen_apply, upTo_zero, EReal.coe_zero], by rw [zeroNum_apply, upTo_zero, EReal.coe_zero]⟩⟩

theorem holds_step (g : Given (m ((c : Thread nD τ).loc main_arg0)) (m ((c : Thread nD τ).loc main_arg3)) (m ((c : Thread nD τ).loc main_arg4)) (m ((c : Thread nD τ).loc main_arg2)) X U H) (t : Fin cfg0.N) (a s w : Vec Ideal S80x16 .f32) (h : Holds m c X U H (8192 * t.val) a s w) :
    Holds m c X U H (8192 * (t.val + 1))
      (shiftNew (grid0.coords t) (iblk m c 0 t) (k0_pay13 (iblk m c 1 t) (iblk m c 2 t)) a)
      (denNew (k0_pay13 (iblk m c 1 t) (iblk m c 2 t)) (member (grid0.coords t) (iblk m c 0 t)) a (shiftNew (grid0.coords t) (iblk m c 0 t) (k0_pay13 (iblk m c 1 t) (iblk m c 2 t)) a) s)
      (numNew (k0_pay13 (iblk m c 1 t) (iblk m c 2 t)) (k0_pay14 (iblk m c 1 t) (iblk m c 2 t)) (member (grid0.coords t) (iblk m c 0 t)) a (shiftNew (grid0.coords t) (iblk m c 0 t) (k0_pay13 (iblk m c 1 t) (iblk m c 2 t)) a) w) := by
  obtain ⟨M, h⟩ := h
  have hr : ∀ j b, ∃ r : ℝ, shiftNew (grid0.coords t) (iblk m c 0 t) (k0_pay13 (iblk m c 1 t) (iblk m c 2 t)) a (ix2 j b) = r :=
    shift_real _ _ _ _ (fun j l => ⟨_, logits_real g t j l⟩) (fun j b => ⟨_, (h j b).1⟩)
  choose Mn hMn using hr
  have one : ∀ l b b', In (m ((c : Thread nD τ).loc main_arg2)) b (token t l) → In (m ((c : Thread nD τ).loc main_arg2)) b' (token t l) → b = b' := fun l b b' => g.one _ b b'
  refine ⟨Mn, fun j b => ⟨hMn j b, ?_, ?_⟩⟩
  · rw [den_step _ _ a _ s (fun j l => dotc X U j (token t l)) (fun b l => In (m ((c : Thread nD τ).loc main_arg2)) b (token t l)) M Mn _ (logits_real g t) (member_real t)
      (fun j b => (h j b).1) hMn (fun j b => (h j b).2.1) one, upTo_block, upTo_mul]
    simp only [wt_carry]
    rfl
  · rw [num_step _ _ _ a _ w (fun j l => dotc X U j (token t l)) (fun j l => dotc X H j (token t l)) (fun b l => In (m ((c : Thread nD τ).loc main_arg2)) b (token t l)) M Mn _ (logits_real g t) (scores_real g t) (member_real t)
      (fun j b => (h j b).1) hMn (fun j b => (h j b).2.2) one, upTo_block, upTo_mul]
    simp only [wv_carry]
    rfl

theorem holds_after (g : Given (m ((c : Thread nD τ).loc main_arg0)) (m ((c : Thread nD τ).loc main_arg3)) (m ((c : Thread nD τ).loc main_arg4)) (m ((c : Thread nD τ).loc main_arg2)) X U H) (n : ℕ) (hn : n < cfg0.N) :
    Holds m c X U H (8192 * (n + 1)) (outsAt0 m c n hn).2.1 (outsAt0 m c n hn).2.2.1 (outsAt0 m c n hn).2.2.2 := by
  have hN : cfg0.N = 4 := N_0
  induction n with
  | zero =>
    rw [show outsAt0 m c 0 hn = _ from outsAt0_A m c ⟨0, hn⟩ rfl (by dsimp only; omega)]
    dsimp only
    rw [leftA_0, leftA_1, leftA_2]
    exact holds_step g ⟨0, hn⟩ _ _ _ holds_start
  | succ n ih =>
    have ih := ih (by omega)
    by_cases h3 : (n + 1) % 4 = 3
    · rw [show outsAt0 m c (n + 1) hn = _ from outsAt0_C m c ⟨n + 1, hn⟩ (by dsimp only; omega) h3]
      dsimp only
      rw [leftC_0, leftC_1, leftC_2]
      exact holds_step g ⟨n + 1, hn⟩ _ _ _ ih
    · rw [show outsAt0 m c (n + 1) hn = _ from outsAt0_B m c ⟨n + 1, hn⟩ (by dsimp only; omega) h3]
      dsimp only
      rw [leftB_0, leftB_1, leftB_2]
      exact holds_step g ⟨n + 1, hn⟩ _ _ _ ih

/-- The result at bag `b`, class `p`, sample `r`. -/
theorem kernel_result (g : Given (m ((c : Thread nD τ).loc main_arg0)) (m ((c : Thread nD τ).loc main_arg3)) (m ((c : Thread nD τ).loc main_arg4)) (m ((c : Thread nD τ).loc main_arg2)) X U H) :
    ∃ z : FVec Ideal S16x80 .f32, (∀ b j, z (ix2 b j) = ((bagMean (dotc X U j) (dotc X H j) (In (m ((c : Thread nD τ).loc main_arg2)) b) : ℝ) : EReal))
      ∧ ∀ (b : Fin 16) (p : Fin 10) (r : Fin 8) (j : Fin 80), j.val = p.val * 8 + r.val →
        G3 m c (ix3 b p r) = Ideal.div (Ideal.sqrt (meanSquare (m ((c : Thread nD τ).loc main_arg4)) j) * centred z (ix2 b j)) (spread z (ix2 0 j)) := by
  have h3 : 3 < cfg0.N := lt_of_lt_of_eq (by decide) N_0.symm
  have hp := holds_after g 2 (by omega)
  have hs := holds_step g ⟨3, h3⟩ _ _ _ hp
  have e4 : G3 m c = (outsAt0 m c 3 h3).1 := by rw [G3_last, ← outsAt0_sweep m c 3 h3]
  have e5 := outsAt0_C m c ⟨3, h3⟩ (by dsimp only; omega) (by dsimp only)
  rw [written] at e5
  have e6 := e4.trans (congrArg (fun x => x.1) e5)
  clear e4 e5
  revert hs e6
  dsimp only
  generalize shiftNew (F := Ideal) _ _ _ _ = sh
  intro hs e6
  obtain ⟨M, hM⟩ := hs
  refine ⟨quotient (denNew (k0_pay13 (iblk m c 1 ⟨3, h3⟩) (iblk m c 2 ⟨3, h3⟩)) (member (grid0.coords ⟨3, h3⟩) (iblk m c 0 ⟨3, h3⟩)) (outsAt0 m c 2 (by omega)).2.1 sh (outsAt0 m c 2 (by omega)).2.2.1) (numNew (k0_pay13 (iblk m c 1 ⟨3, h3⟩) (iblk m c 2 ⟨3, h3⟩)) (k0_pay14 (iblk m c 1 ⟨3, h3⟩) (iblk m c 2 ⟨3, h3⟩)) (member (grid0.coords ⟨3, h3⟩) (iblk m c 0 ⟨3, h3⟩)) (outsAt0 m c 2 (by omega)).2.1 sh (outsAt0 m c 2 (by omega)).2.2.2), fun b j => ?_, fun b p r j hj => ?_⟩
  rotate_left
  · rw [e6, result_apply _ _ _ _ _ _ b p r j hj, standardised_apply, meanSquare_block]
    rfl
  · rw [quotient_apply]
    obtain ⟨-, e1, e2⟩ := hM j b
    refine guarded_quotient _ _ _ (M j b) _ _ (e1.trans ?_) (e2.trans ?_)
    · rw [← upTo_all]
    · rw [← upTo_all]

end Cert.KernelIdeal.Hand
-- ==== Proof.Equation.lean ====
/- The equation of the claim: the reference's result is the kernel's, on arguments that satisfy the precondition. -/
module

public import proofs.«01_k».proof.Proof.Meet
public import proofs.«01_k».proof.Proof.Invariant

@[expose] public section

set_option maxRecDepth 16384

noncomputable section

namespace Cert.Pre_bags_delimited.Hand

open Idealize.ShloMosaic Idealize.ShloMosaic.TcCoe
open Cert.KernelIdeal.Hand (cls smp kernel_result meanSquare centred centred_apply spread spread_apply)
open Cert.ReferenceIdeal.Hand (means scale finish scale_apply awayOf awayOf_apply spreadOf_apply finish_apply result_form)

/-- Standardising equal bag means gives equal results. -/
theorem finish_eq (z : FVec Ideal Cert.KernelIdeal.S64x10x8 .f32) (y : FVec Ideal Cert.KernelIdeal.S16x10x8 .f32) (k : FVec Ideal Cert.KernelIdeal.S16x80 .f32) (j : Fin 80)
    (h : ∀ b : Fin 16, k (ix2 b j) = y (ix3 b (cls j) (smp j))) (b : Fin 16) :
    finish (scale z) y (ix3 b (cls j) (smp j)) = Ideal.div (Ideal.sqrt (meanSquare z j) * centred k (ix2 b j)) (spread k (ix2 0 j)) := by
  have away : ∀ b : Fin 16, awayOf y (ix3 b (cls j) (smp j)) = centred k (ix2 b j) := fun b => by
    rw [awayOf_apply, centred_apply, h]
    simp only [h]
  rw [finish_apply, scale_apply, spreadOf_apply, spread_apply]
  simp only [away]
  rfl

theorem column (p : Fin 10) (r : Fin 8) : ∃ j : Fin 80, j.val = p.val * 8 + r.val ∧ cls j = p ∧ smp j = r := by
  refine ⟨⟨p.val * 8 + r.val, by omega⟩, rfl, Fin.ext ?_, Fin.ext ?_⟩
  · show (p.val * 8 + r.val) / 8 = p.val
    omega
  · show (p.val * 8 + r.val) % 8 = r.val
    omega

theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_bags_delimited m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v57 (F := Ideal) m' c = Cert.KernelIdeal.Value.G3 (F := Ideal) m c := by
  obtain ⟨h1, h2, h3, h4⟩ := hpre c
  obtain ⟨X, U, H, g⟩ := given h1 h2 h3 h4
  obtain ⟨k, hk, hG⟩ := kernel_result (m := m) (c := c) g
  rw [result_form, e0, e1, e3, e4]
  funext i
  idx_vars i
  obtain ⟨j, hj, rfl, rfl⟩ := column i1 i2
  rw [hG i0 _ _ j hj]
  exact finish_eq _ _ k j (fun b => by rw [hk, means_value h1 h4 g]) i0

end Cert.Pre_bags_delimited.Hand
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre : quiescent_ReferenceIdeal_pre_bags_delimited := fun m ρ _ => quiescent_ReferenceIdeal m ρ trivial

/-- Both programs end with the kernel's value in their result. -/
theorem algebraic : algebraic_KernelIdeal_ReferenceIdeal_pre_bags_delimited := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, -, e3, e4⟩ := hagree c
  exact Cert.Pre_bags_delimited.Hand.equation m m' hpre c e0 e1 e3 e4

theorem claim : Cert.Claim := ⟨Cert.Kernel.Gen.facts, Cert.KernelIdeal.Gen.facts, Cert.ReferenceIdeal.Gen.facts, Cert.Pre_bags_delimited.Hand.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre, (trivial : preserves_Kernel_KernelIdeal), algebraic⟩

end Cert.Proof

end
